-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesRefIdeal (m : (ℓ : Loc Cert.StatesRefIdeal.nD Cert.StatesRefIdeal.τ Cert.StatesRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4))
      ∧ r.2.sem = fun _ => 0)

def quiescent_StatesRefIdeal [hStatesRefIdeal : Cert.StatesRefIdeal.Facts] : Prop :=
  ∀ (m : (ℓ : Loc Cert.StatesRefIdeal.nD Cert.StatesRefIdeal.τ Cert.StatesRefIdeal.sig) → Buf (Elt Ideal) ℓ) (g : Dev Cert.StatesRefIdeal.nD → PrngReg), Pre_StatesRefIdeal m →
    θ_run (Cert.StatesRefIdeal.defs (F := Ideal)) (onTc (τ := Cert.StatesRefIdeal.τ) (Cert.StatesRefIdeal.main (F := Ideal))) ⟨m, fun _ => 0, g⟩ (fun r => (∀ c : Dev Cert.StatesRefIdeal.nD,
      r.2.mem ((c.tc : Thread Cert.StatesRefIdeal.nD Cert.StatesRefIdeal.τ).loc Cert.StatesRefIdeal.main_arg0) = m ((c.tc : Thread Cert.StatesRefIdeal.nD Cert.StatesRefIdeal.τ).loc Cert.StatesRefIdeal.main_arg0)
      ∧ r.2.mem ((c.tc : Thread Cert.StatesRefIdeal.nD Cert.StatesRefIdeal.τ).loc Cert.StatesRefIdeal.main_arg1) = m ((c.tc : Thread Cert.StatesRefIdeal.nD Cert.StatesRefIdeal.τ).loc Cert.StatesRefIdeal.main_arg1)
      ∧ r.2.mem ((c.tc : Thread Cert.StatesRefIdeal.nD Cert.StatesRefIdeal.τ).loc Cert.StatesRefIdeal.main_arg2) = m ((c.tc : Thread Cert.StatesRefIdeal.nD Cert.StatesRefIdeal.τ).loc Cert.StatesRefIdeal.main_arg2)
      ∧ r.2.mem ((c.tc : Thread Cert.StatesRefIdeal.nD Cert.StatesRefIdeal.τ).loc Cert.StatesRefIdeal.main_arg3) = m ((c.tc : Thread Cert.StatesRefIdeal.nD Cert.StatesRefIdeal.τ).loc Cert.StatesRefIdeal.main_arg3)
      ∧ r.2.mem ((c.tc : Thread Cert.StatesRefIdeal.nD Cert.StatesRefIdeal.τ).loc Cert.StatesRefIdeal.main_arg4) = m ((c.tc : Thread Cert.StatesRefIdeal.nD Cert.StatesRefIdeal.τ).loc Cert.StatesRefIdeal.main_arg4))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v175_0)) (v1 : (c : Dev Cert.MixIdeal.nD) → Buf (Elt Ideal) ((c.tc : Thread Cert.MixIdeal.nD Cert.MixIdeal.τ).loc Cert.MixIdeal.main_v175_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v175_0) = v0 c
          ∧ r.2.mem ((c.tc : Thread Cert.MixIdeal.nD Cert.MixIdeal.τ).loc Cert.MixIdeal.main_v175_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v239) = v0 c
          ∧ r.2.mem ((c.tc : Thread Cert.MixRefIdeal.nD Cert.MixRefIdeal.τ).loc Cert.MixRefIdeal.main_v240) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  IdealRules.named_const.Statement Cert.MergeIdeal.κ "neg_inf" .f32 0xF149F2CA#32 ⊥

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)) (v2 : (c : Dev Cert.MergeIdeal.nD) → Buf (Elt Ideal) ((c.tc : Thread Cert.MergeIdeal.nD Cert.MergeIdeal.τ).loc Cert.MergeIdeal.main_v11_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_v11_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v66) = v1 c
          ∧ r.2.mem ((c.tc : Thread Cert.MergeRefIdeal.nD Cert.MergeRefIdeal.τ).loc Cert.MergeRefIdeal.main_v65) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_States_StatesIdeal : Prop :=
  True

def algebraic_StatesIdeal_StatesRefIdeal [hStatesIdeal : Cert.StatesIdeal.Facts] [hStatesRefIdeal : Cert.StatesRefIdeal.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesRefIdeal.nD Cert.StatesRefIdeal.τ Cert.StatesRefIdeal.sig) → Buf (Elt Ideal) ℓ) (g' : Dev Cert.StatesRefIdeal.nD → PrngReg), Pre_StatesIdeal m →
    (∀ c : Dev Cert.StatesIdeal.nD,
      m' ((c.tc : Thread Cert.StatesRefIdeal.nD Cert.StatesRefIdeal.τ).loc Cert.StatesRefIdeal.main_arg0) = m ((c.tc : Thread Cert.StatesIdeal.nD Cert.StatesIdeal.τ).loc Cert.StatesIdeal.main_arg0)
      ∧ m' ((c.tc : Thread Cert.StatesRefIdeal.nD Cert.StatesRefIdeal.τ).loc Cert.StatesRefIdeal.main_arg1) = m ((c.tc : Thread Cert.StatesIdeal.nD Cert.StatesIdeal.τ).loc Cert.StatesIdeal.main_arg1)
      ∧ m' ((c.tc : Thread Cert.StatesRefIdeal.nD Cert.StatesRefIdeal.τ).loc Cert.StatesRefIdeal.main_arg2) = m ((c.tc : Thread Cert.StatesIdeal.nD Cert.StatesIdeal.τ).loc Cert.StatesIdeal.main_arg2)
      ∧ m' ((c.tc : Thread Cert.StatesRefIdeal.nD Cert.StatesRefIdeal.τ).loc Cert.StatesRefIdeal.main_arg3) = m ((c.tc : Thread Cert.StatesIdeal.nD Cert.StatesIdeal.τ).loc Cert.StatesIdeal.main_arg3)
      ∧ m' ((c.tc : Thread Cert.StatesRefIdeal.nD Cert.StatesRefIdeal.τ).loc Cert.StatesRefIdeal.main_arg4) = m ((c.tc : Thread Cert.StatesIdeal.nD Cert.StatesIdeal.τ).loc Cert.StatesIdeal.main_arg4)) →
    ∃ (v0 : (c : Dev Cert.StatesIdeal.nD) → Buf (Elt Ideal) ((c.tc : Thread Cert.StatesIdeal.nD Cert.StatesIdeal.τ).loc Cert.StatesIdeal.main_v169_0)) (v1 : (c : Dev Cert.StatesIdeal.nD) → Buf (Elt Ideal) ((c.tc : Thread Cert.StatesIdeal.nD Cert.StatesIdeal.τ).loc Cert.StatesIdeal.main_v169_1)) (v2 : (c : Dev Cert.StatesIdeal.nD) → Buf (Elt Ideal) ((c.tc : Thread Cert.StatesIdeal.nD Cert.StatesIdeal.τ).loc Cert.StatesIdeal.main_v169_2)) (v3 : (c : Dev Cert.StatesIdeal.nD) → Buf (Elt Ideal) ((c.tc : Thread Cert.StatesIdeal.nD Cert.StatesIdeal.τ).loc Cert.StatesIdeal.main_v169_3)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v169_0) = v0 c
          ∧ r.2.mem ((c.tc : Thread Cert.StatesIdeal.nD Cert.StatesIdeal.τ).loc Cert.StatesIdeal.main_v169_1) = v1 c
          ∧ r.2.mem ((c.tc : Thread Cert.StatesIdeal.nD Cert.StatesIdeal.τ).loc Cert.StatesIdeal.main_v169_2) = v2 c
          ∧ r.2.mem ((c.tc : Thread Cert.StatesIdeal.nD Cert.StatesIdeal.τ).loc Cert.StatesIdeal.main_v169_3) = v3 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4))
      ∧ θ_run (Cert.StatesRefIdeal.defs (F := Ideal)) (onTc (τ := Cert.StatesRefIdeal.τ) (Cert.StatesRefIdeal.main (F := Ideal))) ⟨m', fun _ => 0, g'⟩ (fun r => ∀ c : Dev Cert.StatesRefIdeal.nD,
          r.2.mem ((c.tc : Thread Cert.StatesRefIdeal.nD Cert.StatesRefIdeal.τ).loc Cert.StatesRefIdeal.main_v174) = v0 c
          ∧ r.2.mem ((c.tc : Thread Cert.StatesRefIdeal.nD Cert.StatesRefIdeal.τ).loc Cert.StatesRefIdeal.main_v176) = v1 c
          ∧ r.2.mem ((c.tc : Thread Cert.StatesRefIdeal.nD Cert.StatesRefIdeal.τ).loc Cert.StatesRefIdeal.main_v178) = v2 c
          ∧ r.2.mem ((c.tc : Thread Cert.StatesRefIdeal.nD Cert.StatesRefIdeal.τ).loc Cert.StatesRefIdeal.main_v180) = v3 c
          ∧ r.2.mem ((c.tc : Thread Cert.StatesRefIdeal.nD Cert.StatesRefIdeal.τ).loc Cert.StatesRefIdeal.main_arg0) = m' ((c.tc : Thread Cert.StatesRefIdeal.nD Cert.StatesRefIdeal.τ).loc Cert.StatesRefIdeal.main_arg0)
          ∧ r.2.mem ((c.tc : Thread Cert.StatesRefIdeal.nD Cert.StatesRefIdeal.τ).loc Cert.StatesRefIdeal.main_arg1) = m' ((c.tc : Thread Cert.StatesRefIdeal.nD Cert.StatesRefIdeal.τ).loc Cert.StatesRefIdeal.main_arg1)
          ∧ r.2.mem ((c.tc : Thread Cert.StatesRefIdeal.nD Cert.StatesRefIdeal.τ).loc Cert.StatesRefIdeal.main_arg2) = m' ((c.tc : Thread Cert.StatesRefIdeal.nD Cert.StatesRefIdeal.τ).loc Cert.StatesRefIdeal.main_arg2)
          ∧ r.2.mem ((c.tc : Thread Cert.StatesRefIdeal.nD Cert.StatesRefIdeal.τ).loc Cert.StatesRefIdeal.main_arg3) = m' ((c.tc : Thread Cert.StatesRefIdeal.nD Cert.StatesRefIdeal.τ).loc Cert.StatesRefIdeal.main_arg3)
          ∧ r.2.mem ((c.tc : Thread Cert.StatesRefIdeal.nD Cert.StatesRefIdeal.τ).loc Cert.StatesRefIdeal.main_arg4) = m' ((c.tc : Thread Cert.StatesRefIdeal.nD Cert.StatesRefIdeal.τ).loc Cert.StatesRefIdeal.main_arg4))

def Claim : Prop :=
  ∃ (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hStates : Cert.States.Facts) (hStatesIdeal : Cert.StatesIdeal.Facts) (hStatesRefIdeal : Cert.StatesRefIdeal.Facts),
    quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_States (hStates := hStates)
    ∧ quiescent_StatesIdeal (hStatesIdeal := hStatesIdeal)
    ∧ quiescent_StatesRefIdeal (hStatesRefIdeal := hStatesRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_States_StatesIdeal
    ∧ algebraic_StatesIdeal_StatesRefIdeal (hStatesIdeal := hStatesIdeal) (hStatesRefIdeal := hStatesRefIdeal)
-- ==== Mix.lean ====
abbrev S8x4096x6400 : Shape := ⟨3, ![8, 4096, 6400]⟩
abbrev S8x32x4x64x128 : Shape := ⟨5, ![8, 32, 4, 64, 128]⟩
abbrev S4 : Shape := ⟨1, ![4]⟩
abbrev S4x128x128 : Shape := ⟨3, ![4, 128, 128]⟩
abbrev S4x128 : Shape := ⟨2, ![4, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S256 : Shape := ⟨1, ![256]⟩
abbrev S1x256 : Shape := ⟨2, ![1, 256]⟩
abbrev S4x1 : Shape := ⟨2, ![4, 1]⟩
abbrev S2x2x128 : Shape := ⟨3, ![2, 2, 128]⟩
abbrev S2x128x2 : Shape := ⟨3, ![2, 128, 2]⟩
abbrev S2x128x2x64 : Shape := ⟨4, ![2, 128, 2, 64]⟩
abbrev S2x128x128 : Shape := ⟨3, ![2, 128, 128]⟩
abbrev S2x2 : Shape := ⟨2, ![2, 2]⟩
abbrev S2x2x64 : Shape := ⟨3, ![2, 2, 64]⟩
abbrev S2x128 : Shape := ⟨2, ![2, 128]⟩
abbrev S2x128x1 : Shape := ⟨3, ![2, 128, 1]⟩
abbrev S2x128x256 : Shape := ⟨3, ![2, 128, 256]⟩
abbrev S128x256 : Shape := ⟨2, ![128, 256]⟩
abbrev S128x4 : Shape := ⟨2, ![128, 4]⟩
abbrev S128x4x128 : Shape := ⟨3, ![128, 4, 128]⟩
abbrev S128x512 : Shape := ⟨2, ![128, 512]⟩
abbrev S8x32x2x2x64x1x128 : Shape := ⟨7, ![8, 32, 2, 2, 64, 1, 128]⟩
abbrev S2x1x2x1 : Shape := ⟨4, ![2, 1, 2, 1]⟩
abbrev S1x1x1x2x1x2x1 : Shape := ⟨7, ![1, 1, 1, 2, 1, 2, 1]⟩
abbrev S8x32x2x2x64x2x128 : Shape := ⟨7, ![8, 32, 2, 2, 64, 2, 128]⟩
abbrev S8x32x2x128x256 : Shape := ⟨5, ![8, 32, 2, 128, 256]⟩
abbrev S8x4096x512 : Shape := ⟨3, ![8, 4096, 512]⟩
abbrev S1x1024x256 : Shape := ⟨3, ![1, 1024, 256]⟩
abbrev S1x1024x512 : Shape := ⟨3, ![1, 1024, 512]⟩
abbrev S1024x128 : Shape := ⟨2, ![1024, 128]⟩
abbrev S1x8x2x128x256 : Shape := ⟨5, ![1, 8, 2, 128, 256]⟩
abbrev S1x128x256 : Shape := ⟨3, ![1, 128, 256]⟩
abbrev S1x128x512 : Shape := ⟨3, ![1, 128, 512]⟩
abbrev S1x1x1x128x256 : Shape := ⟨5, ![1, 1, 1, 128, 256]⟩

abbrev nBuf : Space → Nat
  | .hbm => 264
  | .vmem => 29
  | .smem => 0
  | _ => 0

abbrev hbmTy0_0 (i : Nat) : BufTy := match i % 128 with
  | 0 => ⟨S8x4096x6400, .bf16⟩
  | 1 => ⟨S8x32x4x64x128, .f32⟩
  | 2 => ⟨S8x32x4x64x128, .f32⟩
  | 3 => ⟨S4, .f32⟩
  | 4 => ⟨S4, .f32⟩
  | 5 => ⟨S4x128x128, .f32⟩
  | 6 => ⟨S4x128, .f32⟩
  | 7 => ⟨S64, .i32⟩
  | 8 => ⟨S64x64, .i32⟩
  | 9 => ⟨S4096, .i32⟩
  | 10 => ⟨S4096, .f32⟩
  | 11 => ⟨S64, .i32⟩
  | 12 => ⟨S1x64, .i32⟩
  | 13 => ⟨S64x64, .i32⟩
  | 14 => ⟨S4096, .i32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x1, .f32⟩
  | 30 => ⟨S1x16, .f32⟩
  | 31 => ⟨S4096x16, .f32⟩
  | 32 => ⟨S4096x16, .f32⟩
  | 33 => ⟨S4096x16, .f32⟩
  | 34 => ⟨S4096x32, .f32⟩
  | 35 => ⟨S4096x32, .f32⟩
  | 36 => ⟨S4096x32, .f32⟩
  | 37 => ⟨S4096x64, .f32⟩
  | 38 => ⟨S1x4096x1x64, .f32⟩
  | 39 => ⟨S1x4096x2x64, .f32⟩
  | 40 => ⟨S4096x128, .f32⟩
  | 41 => ⟨S4096x32, .f32⟩
  | 42 => ⟨S4096x64, .f32⟩
  | 43 => ⟨S1x4096x1x64, .f32⟩
  | 44 => ⟨S1x4096x2x64, .f32⟩
  | 45 => ⟨S4096x128, .f32⟩
  | 46 => ⟨S4, .f32⟩
  | 47 => ⟨S_, .f32⟩
  | 48 => ⟨S4, .f32⟩
  | 49 => ⟨S4, .f32⟩
  | 50 => ⟨S4, .f32⟩
  | 51 => ⟨S4, .f32⟩
  | 52 => ⟨S4, .i1⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S4, .f32⟩
  | 61 => ⟨S4, .f32⟩
  | 62 => ⟨S4, .f32⟩
  | 63 => ⟨S_, .f32⟩
  | 64 => ⟨S4, .f32⟩
  | 65 => ⟨S4, .f32⟩
  | 66 => ⟨S4, .f32⟩
  | 67 => ⟨S4, .f32⟩
  | 68 => ⟨S4, .i1⟩
  | 69 => ⟨S4, .f32⟩
  | 70 => ⟨S4, .f32⟩
  | 71 => ⟨S4, .f32⟩
  | 72 => ⟨S4, .f32⟩
  | 73 => ⟨S4, .f32⟩
  | 74 => ⟨S4, .f32⟩
  | 75 => ⟨S4, .f32⟩
  | 76 => ⟨S4, .f32⟩
  | 77 => ⟨S4, .f32⟩
  | 78 => ⟨S128, .f32⟩
  | 79 => ⟨S128x1, .f32⟩
  | 80 => ⟨S1x128, .f32⟩
  | 81 => ⟨S128x128, .f32⟩
  | 82 => ⟨S128x128, .f32⟩
  | 83 => ⟨S128x128, .f32⟩
  | 84 => ⟨S_, .f32⟩
  | 85 => ⟨S128x128, .f32⟩
  | 86 => ⟨S128x128, .i1⟩
  | 87 => ⟨S_, .f32⟩
  | 88 => ⟨S128x128, .f32⟩
  | 89 => ⟨S128x128, .f32⟩
  | 90 => ⟨S1x128x128, .f32⟩
  | 91 => ⟨S4x1x1, .f32⟩
  | 92 => ⟨S4x128x128, .f32⟩
  | 93 => ⟨S4x128x128, .f32⟩
  | 94 => ⟨S4x128x128, .f32⟩
  | 95 => ⟨S4x128x128, .f32⟩
  | 96 => ⟨S128x128, .f32⟩
  | 97 => ⟨S_, .f32⟩
  | 98 => ⟨S128x128, .f32⟩
  | 99 => ⟨S128x128, .f32⟩
  | 100 => ⟨S1x128x128, .f32⟩
  | 101 => ⟨S4x1x1, .f32⟩
  | 102 => ⟨S4x128x128, .f32⟩
  | 103 => ⟨S4x128x128, .f32⟩
  | 104 => ⟨S4x128x128, .f32⟩
  | 105 => ⟨S4x128x128, .f32⟩
  | 106 => ⟨S4x128x128, .i1⟩
  | 107 => ⟨S4x128x128, .f32⟩
  | 108 => ⟨S_, .f32⟩
  | 109 => ⟨S4x128x128, .f32⟩
  | 110 => ⟨S4x128x128, .f32⟩
  | 111 => ⟨S128, .i32⟩
  | 112 => ⟨S128x1, .i32⟩
  | 113 => ⟨S_, .i32⟩
  | 114 => ⟨S_, .i32⟩
  | 115 => ⟨S128x1, .i32⟩
  | 116 => ⟨S128x1, .i32⟩
  | 117 => ⟨S128x1, .i32⟩
  | 118 => ⟨S_, .i32⟩
  | 119 => ⟨S128x1, .i32⟩
  | 120 => ⟨S128x1, .i1⟩
  | 121 => ⟨S128x1, .i32⟩
  | 122 => ⟨S128x1, .i32⟩
  | 123 => ⟨S_, .i32⟩
  | 124 => ⟨S128x1, .i32⟩
  | 125 => ⟨S128x1, .i1⟩
  | 126 => ⟨S128x1, .i1⟩
  | 127 => ⟨S_, .i32⟩
  | _ => ⟨S8x4096x6400, .bf16⟩

abbrev hbmTy0_1 (i : Nat) : BufTy := match i % 128 with
  | 0 => ⟨S128x1, .i32⟩
  | 1 => ⟨S128x1, .i32⟩
  | 2 => ⟨S128x1, .i32⟩
  | 3 => ⟨S256, .i32⟩
  | 4 => ⟨S1x256, .i32⟩
  | 5 => ⟨S_, .i32⟩
  | 6 => ⟨S_, .i32⟩
  | 7 => ⟨S1x256, .i32⟩
  | 8 => ⟨S1x256, .i32⟩
  | 9 => ⟨S1x256, .i32⟩
  | 10 => ⟨S_, .i32⟩
  | 11 => ⟨S1x256, .i32⟩
  | 12 => ⟨S1x256, .i1⟩
  | 13 => ⟨S1x256, .i32⟩
  | 14 => ⟨S1x256, .i32⟩
  | 15 => ⟨S_, .i32⟩
  | 16 => ⟨S1x256, .i32⟩
  | 17 => ⟨S1x256, .i1⟩
  | 18 => ⟨S1x256, .i1⟩
  | 19 => ⟨S_, .i32⟩
  | 20 => ⟨S1x256, .i32⟩
  | 21 => ⟨S1x256, .i32⟩
  | 22 => ⟨S1x256, .i32⟩
  | 23 => ⟨S_, .f32⟩
  | 24 => ⟨S128, .f32⟩
  | 25 => ⟨S128, .f32⟩
  | 26 => ⟨S1x128, .f32⟩
  | 27 => ⟨S4x1, .f32⟩
  | 28 => ⟨S4x128, .f32⟩
  | 29 => ⟨S4x128, .f32⟩
  | 30 => ⟨S4x128, .f32⟩
  | 31 => ⟨S4x128, .f32⟩
  | 32 => ⟨S2x2x128, .f32⟩
  | 33 => ⟨S2x128x2, .f32⟩
  | 34 => ⟨S2x128x2x64, .f32⟩
  | 35 => ⟨S2x128x128, .f32⟩
  | 36 => ⟨S_, .f32⟩
  | 37 => ⟨S2x128x128, .f32⟩
  | 38 => ⟨S2x128x128, .f32⟩
  | 39 => ⟨S1x128, .f32⟩
  | 40 => ⟨S4x1, .f32⟩
  | 41 => ⟨S4x128, .f32⟩
  | 42 => ⟨S4x128, .f32⟩
  | 43 => ⟨S4x128, .f32⟩
  | 44 => ⟨S4x128, .f32⟩
  | 45 => ⟨S2x2x128, .f32⟩
  | 46 => ⟨S2x128x2, .f32⟩
  | 47 => ⟨S2x128x2x64, .f32⟩
  | 48 => ⟨S2x128x128, .f32⟩
  | 49 => ⟨S_, .f32⟩
  | 50 => ⟨S2x128x128, .f32⟩
  | 51 => ⟨S2x128x128, .f32⟩
  | 52 => ⟨S_, .f32⟩
  | 53 => ⟨S128, .f32⟩
  | 54 => ⟨S128, .f32⟩
  | 55 => ⟨S1x128, .f32⟩
  | 56 => ⟨S4x1, .f32⟩
  | 57 => ⟨S4x128, .f32⟩
  | 58 => ⟨S4x128, .f32⟩
  | 59 => ⟨S4x128, .f32⟩
  | 60 => ⟨S4x128, .f32⟩
  | 61 => ⟨S2x2x128, .f32⟩
  | 62 => ⟨S2x128x2, .f32⟩
  | 63 => ⟨S2x128x2x64, .f32⟩
  | 64 => ⟨S2x128x128, .f32⟩
  | 65 => ⟨S_, .f32⟩
  | 66 => ⟨S128, .f32⟩
  | 67 => ⟨S128, .f32⟩
  | 68 => ⟨S1x128, .f32⟩
  | 69 => ⟨S4x1, .f32⟩
  | 70 => ⟨S4x128, .f32⟩
  | 71 => ⟨S4x128, .f32⟩
  | 72 => ⟨S4x128, .f32⟩
  | 73 => ⟨S4x128, .f32⟩
  | 74 => ⟨S2x2x128, .f32⟩
  | 75 => ⟨S2x128x2, .f32⟩
  | 76 => ⟨S2x128x2x64, .f32⟩
  | 77 => ⟨S2x128x128, .f32⟩
  | 78 => ⟨S_, .f32⟩
  | 79 => ⟨S4, .f32⟩
  | 80 => ⟨S4, .f32⟩
  | 81 => ⟨S4, .f32⟩
  | 82 => ⟨S2x2, .f32⟩
  | 83 => ⟨S2x2x64, .f32⟩
  | 84 => ⟨S2x128, .f32⟩
  | 85 => ⟨S2x128x1, .f32⟩
  | 86 => ⟨S2x128x256, .f32⟩
  | 87 => ⟨S_, .f32⟩
  | 88 => ⟨S4, .f32⟩
  | 89 => ⟨S4, .f32⟩
  | 90 => ⟨S4, .f32⟩
  | 91 => ⟨S2x2, .f32⟩
  | 92 => ⟨S2x2x64, .f32⟩
  | 93 => ⟨S2x128, .f32⟩
  | 94 => ⟨S2x128x1, .f32⟩
  | 95 => ⟨S2x128x256, .f32⟩
  | 96 => ⟨S128x256, .i32⟩
  | 97 => ⟨S128x256, .i32⟩
  | 98 => ⟨S128x256, .i1⟩
  | 99 => ⟨S128x256, .f32⟩
  | 100 => ⟨S4x128x128, .bf16⟩
  | 101 => ⟨S128x4, .f32⟩
  | 102 => ⟨S128x4x128, .f32⟩
  | 103 => ⟨S128x512, .f32⟩
  | 104 => ⟨S8x32x2x2x64x1x128, .f32⟩
  | 105 => ⟨S2x2, .i32⟩
  | 106 => ⟨S2x2, .i32⟩
  | 107 => ⟨S_, .i32⟩
  | 108 => ⟨S2x2, .i32⟩
  | 109 => ⟨S2x2, .i32⟩
  | 110 => ⟨S2x2, .i1⟩
  | 111 => ⟨S2x2, .f32⟩
  | 112 => ⟨S2x1x2x1, .f32⟩
  | 113 => ⟨S1x1x1x2x1x2x1, .f32⟩
  | 114 => ⟨S8x32x2x2x64x2x128, .f32⟩
  | 115 => ⟨S8x32x2x2x64x2x128, .f32⟩
  | 116 => ⟨S8x32x2x2x64x2x128, .f32⟩
  | 117 => ⟨S8x32x2x128x256, .f32⟩
  | 118 => ⟨S8x32x2x128x256, .bf16⟩
  | 119 => ⟨S8x32x2x2x64x1x128, .f32⟩
  | 120 => ⟨S2x2, .i32⟩
  | 121 => ⟨S2x2, .i32⟩
  | 122 => ⟨S_, .i32⟩
  | 123 => ⟨S2x2, .i32⟩
  | 124 => ⟨S2x2, .i32⟩
  | 125 => ⟨S2x2, .i1⟩
  | 126 => ⟨S2x2, .f32⟩
  | 127 => ⟨S2x1x2x1, .f32⟩
  | _ => ⟨S8x4096x6400, .bf16⟩

abbrev hbmTy0_2 (i : Nat) : BufTy := match i % 128 with
  | 0 => ⟨S1x1x1x2x1x2x1, .f32⟩
  | 1 => ⟨S8x32x2x2x64x2x128, .f32⟩
  | 2 => ⟨S8x32x2x2x64x2x128, .f32⟩
  | 3 => ⟨S8x32x2x2x64x2x128, .f32⟩
  | 4 => ⟨S8x32x2x128x256, .f32⟩
  | 5 => ⟨S8x32x2x128x256, .bf16⟩
  | 6 => ⟨S8x4096x512, .bf16⟩
  | 7 => ⟨S8x4096x512, .bf16⟩
  | _ => ⟨S8x4096x6400, .bf16⟩

abbrev hbmTy (i : Nat) : BufTy := match i / 128 with
  | 0 => hbmTy0_0 i
  | 1 => hbmTy0_1 i
  | 2 => hbmTy0_2 i
  | _ => ⟨S8x4096x6400, .bf16⟩

abbrev bufTy : (tb : Table) → Fin (tcTables nBuf tb) → BufTy
  | .hbm, ⟨i, _⟩ => hbmTy i
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x8x2x128x256, .bf16⟩
  | .local _ .vmem, ⟨17, _⟩ => ⟨S1x8x2x128x256, .bf16⟩
  | .local _ .vmem, ⟨18, _⟩ => ⟨S1x8x2x128x256, .bf16⟩
  | .local _ .vmem, ⟨19, _⟩ => ⟨S1x8x2x128x256, .bf16⟩
  | .local _ .vmem, ⟨20, _⟩ => ⟨S4x128x128, .f32⟩
  | .local _ .vmem, ⟨21, _⟩ => ⟨S2x128x128, .f32⟩
  | .local _ .vmem, ⟨22, _⟩ => ⟨S2x128x128, .f32⟩
  | .local _ .vmem, ⟨23, _⟩ => ⟨S4x128x128, .bf16⟩
  | .local _ .vmem, ⟨24, _⟩ => ⟨S128x512, .f32⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | _, _ => ⟨S8x4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v37 : Ref sig .tc := ⟨.hbm, 61, rfl⟩
abbrev main_call1_v0 : Ref sig .tc := ⟨.hbm, 62, rfl⟩
abbrev main_call1_call0_cst : Ref sig .tc := ⟨.hbm, 63, rfl⟩
abbrev main_call1_call0_v0 : Ref sig .tc := ⟨.hbm, 64, rfl⟩
abbrev main_call1_call0_v1 : Ref sig .tc := ⟨.hbm, 65, rfl⟩
abbrev main_call1_call0_v2 : Ref sig .tc := ⟨.hbm, 66, rfl⟩
abbrev main_call1_call0_v3 : Ref sig .tc := ⟨.hbm, 67, rfl⟩
abbrev main_call1_call0_v4 : Ref sig .tc := ⟨.hbm, 68, rfl⟩
abbrev main_call1_call0_v5 : Ref sig .tc := ⟨.hbm, 69, rfl⟩
abbrev main_call1_call0_v6 : Ref sig .tc := ⟨.hbm, 70, rfl⟩
abbrev main_call1_call0_v7 : Ref sig .tc := ⟨.hbm, 71, rfl⟩
abbrev main_call1_call0_v8 : Ref sig .tc := ⟨.hbm, 72, rfl⟩
abbrev main_call1_call0_v9 : Ref sig .tc := ⟨.hbm, 73, rfl⟩
abbrev main_call1_call0_v10 : Ref sig .tc := ⟨.hbm, 74, rfl⟩
abbrev main_call1_call0_v11 : Ref sig .tc := ⟨.hbm, 75, rfl⟩
abbrev main_call1_v1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_1 : Ref sig .tc := ⟨.hbm, 84, rfl⟩
abbrev main_v45 : Ref sig .tc := ⟨.hbm, 85, rfl⟩
abbrev main_v46 : Ref sig .tc := ⟨.hbm, 86, rfl⟩
abbrev main_cst_2 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_3 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call2_v0 : Ref sig .tc := ⟨.hbm, 106, rfl⟩
abbrev main_v64 : Ref sig .tc := ⟨.hbm, 107, rfl⟩
abbrev main_cst_4 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_c : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_0 : Ref sig .tc := ⟨.hbm, 127, rfl⟩
abbrev main_call3_v12 : Ref sig .tc := ⟨.hbm, 128, rfl⟩
abbrev main_call3_v13 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_c_5 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_c : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_0 : Ref sig .tc := ⟨.hbm, 147, rfl⟩
abbrev main_call4_v12 : Ref sig .tc := ⟨.hbm, 148, rfl⟩
abbrev main_call4_v13 : Ref sig .tc := ⟨.hbm, 149, rfl⟩
abbrev main_v72 : Ref sig .tc := ⟨.hbm, 150, rfl⟩
abbrev main_cst_6 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_7 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_cst_8 : Ref sig .tc := ⟨.hbm, 177, rfl⟩
abbrev main_v97 : Ref sig .tc := ⟨.hbm, 178, rfl⟩
abbrev main_v98 : Ref sig .tc := ⟨.hbm, 179, rfl⟩
abbrev main_cst_9 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_cst_10 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_cst_11 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_12 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_c_13 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_c_14 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175_0 : Ref sig .tc := ⟨.hbm, 262, rfl⟩
abbrev main_v175_1 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x2x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixRefIdeal.lean ====
abbrev S8x4096x6400 : Shape := ⟨3, ![8, 4096, 6400]⟩
abbrev S8x32x4x64x128 : Shape := ⟨5, ![8, 32, 4, 64, 128]⟩
abbrev S4 : Shape := ⟨1, ![4]⟩
abbrev S4x128x128 : Shape := ⟨3, ![4, 128, 128]⟩
abbrev S4x128 : Shape := ⟨2, ![4, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x4096x256 : Shape := ⟨3, ![8, 4096, 256]⟩
abbrev S8x4096x4x64 : Shape := ⟨4, ![8, 4096, 4, 64]⟩
abbrev S4096x1x32 : Shape := ⟨3, ![4096, 1, 32]⟩
abbrev S8x4096x4x32 : Shape := ⟨4, ![8, 4096, 4, 32]⟩
abbrev S1x4096x1x32 : Shape := ⟨4, ![1, 4096, 1, 32]⟩
abbrev S8x4096x512 : Shape := ⟨3, ![8, 4096, 512]⟩
abbrev S8x4096x4x128 : Shape := ⟨4, ![8, 4096, 4, 128]⟩
abbrev S8x32x128x4x64 : Shape := ⟨5, ![8, 32, 128, 4, 64]⟩
abbrev S8x32x128x4x128 : Shape := ⟨5, ![8, 32, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S8x32x4x128x128 : Shape := ⟨5, ![8, 32, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S8x4096x4 : Shape := ⟨3, ![8, 4096, 4]⟩
abbrev S8x4096x4x1 : Shape := ⟨4, ![8, 4096, 4, 1]⟩
abbrev S8x4096 : Shape := ⟨2, ![8, 4096]⟩
abbrev S8x4096x1 : Shape := ⟨3, ![8, 4096, 1]⟩
abbrev S4x8x32x128x128 : Shape := ⟨5, ![4, 8, 32, 128, 128]⟩
abbrev S128x4x1 : Shape := ⟨3, ![128, 4, 1]⟩

abbrev nBuf : Space → Nat
  | .hbm => 325
  | .vmem => 0
  | .smem => 0
  | _ => 0

abbrev hbmTy0_0 (i : Nat) : BufTy := match i % 128 with
  | 0 => ⟨S8x4096x6400, .bf16⟩
  | 1 => ⟨S8x32x4x64x128, .f32⟩
  | 2 => ⟨S8x32x4x64x128, .f32⟩
  | 3 => ⟨S4, .f32⟩
  | 4 => ⟨S4, .f32⟩
  | 5 => ⟨S4x128x128, .f32⟩
  | 6 => ⟨S4x128, .f32⟩
  | 7 => ⟨S8x4096x6400, .f32⟩
  | 8 => ⟨S64, .i32⟩
  | 9 => ⟨S64x64, .i32⟩
  | 10 => ⟨S4096, .i32⟩
  | 11 => ⟨S4096, .f32⟩
  | 12 => ⟨S64, .i32⟩
  | 13 => ⟨S1x64, .i32⟩
  | 14 => ⟨S64x64, .i32⟩
  | 15 => ⟨S4096, .i32⟩
  | 16 => ⟨S4096, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x32, .f32⟩
  | 36 => ⟨S4096x32, .f32⟩
  | 37 => ⟨S4096x32, .f32⟩
  | 38 => ⟨S4, .f32⟩
  | 39 => ⟨S_, .f32⟩
  | 40 => ⟨S4, .f32⟩
  | 41 => ⟨S4, .f32⟩
  | 42 => ⟨S4, .f32⟩
  | 43 => ⟨S4, .f32⟩
  | 44 => ⟨S4, .i1⟩
  | 45 => ⟨S4, .f32⟩
  | 46 => ⟨S4, .f32⟩
  | 47 => ⟨S4, .f32⟩
  | 48 => ⟨S4, .f32⟩
  | 49 => ⟨S4, .f32⟩
  | 50 => ⟨S4, .f32⟩
  | 51 => ⟨S4, .f32⟩
  | 52 => ⟨S4, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S4, .f32⟩
  | 60 => ⟨S4, .i1⟩
  | 61 => ⟨S4, .f32⟩
  | 62 => ⟨S4, .f32⟩
  | 63 => ⟨S4, .f32⟩
  | 64 => ⟨S4, .f32⟩
  | 65 => ⟨S4, .f32⟩
  | 66 => ⟨S4, .f32⟩
  | 67 => ⟨S4, .f32⟩
  | 68 => ⟨S4, .f32⟩
  | 69 => ⟨S4, .f32⟩
  | 70 => ⟨S8x4096x256, .f32⟩
  | 71 => ⟨S8x4096x4x64, .f32⟩
  | 72 => ⟨S4096x1x32, .f32⟩
  | 73 => ⟨S4096x1x32, .f32⟩
  | 74 => ⟨S8x4096x4x32, .f32⟩
  | 75 => ⟨S8x4096x4x32, .f32⟩
  | 76 => ⟨S1x4096x1x32, .f32⟩
  | 77 => ⟨S8x4096x4x32, .f32⟩
  | 78 => ⟨S8x4096x4x32, .f32⟩
  | 79 => ⟨S1x4096x1x32, .f32⟩
  | 80 => ⟨S8x4096x4x32, .f32⟩
  | 81 => ⟨S8x4096x4x32, .f32⟩
  | 82 => ⟨S8x4096x4x32, .f32⟩
  | 83 => ⟨S1x4096x1x32, .f32⟩
  | 84 => ⟨S8x4096x4x32, .f32⟩
  | 85 => ⟨S8x4096x4x32, .f32⟩
  | 86 => ⟨S1x4096x1x32, .f32⟩
  | 87 => ⟨S8x4096x4x32, .f32⟩
  | 88 => ⟨S8x4096x4x32, .f32⟩
  | 89 => ⟨S8x4096x4x32, .f32⟩
  | 90 => ⟨S8x4096x4x64, .f32⟩
  | 91 => ⟨S8x4096x256, .f32⟩
  | 92 => ⟨S8x4096x4x64, .f32⟩
  | 93 => ⟨S4096x1x32, .f32⟩
  | 94 => ⟨S4096x1x32, .f32⟩
  | 95 => ⟨S8x4096x4x32, .f32⟩
  | 96 => ⟨S8x4096x4x32, .f32⟩
  | 97 => ⟨S1x4096x1x32, .f32⟩
  | 98 => ⟨S8x4096x4x32, .f32⟩
  | 99 => ⟨S8x4096x4x32, .f32⟩
  | 100 => ⟨S1x4096x1x32, .f32⟩
  | 101 => ⟨S8x4096x4x32, .f32⟩
  | 102 => ⟨S8x4096x4x32, .f32⟩
  | 103 => ⟨S8x4096x4x32, .f32⟩
  | 104 => ⟨S1x4096x1x32, .f32⟩
  | 105 => ⟨S8x4096x4x32, .f32⟩
  | 106 => ⟨S8x4096x4x32, .f32⟩
  | 107 => ⟨S1x4096x1x32, .f32⟩
  | 108 => ⟨S8x4096x4x32, .f32⟩
  | 109 => ⟨S8x4096x4x32, .f32⟩
  | 110 => ⟨S8x4096x4x32, .f32⟩
  | 111 => ⟨S8x4096x4x64, .f32⟩
  | 112 => ⟨S_, .f32⟩
  | 113 => ⟨S8x4096x4x64, .f32⟩
  | 114 => ⟨S8x4096x4x64, .f32⟩
  | 115 => ⟨S8x4096x512, .f32⟩
  | 116 => ⟨S8x4096x4x128, .f32⟩
  | 117 => ⟨S8x32x128x4x64, .f32⟩
  | 118 => ⟨S8x32x128x4x64, .f32⟩
  | 119 => ⟨S8x32x128x4x128, .f32⟩
  | 120 => ⟨S128, .f32⟩
  | 121 => ⟨S128x1, .f32⟩
  | 122 => ⟨S1x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S8x4096x6400, .bf16⟩

abbrev hbmTy0_1 (i : Nat) : BufTy := match i % 128 with
  | 0 => ⟨S128x128, .i1⟩
  | 1 => ⟨S1x128x128, .i1⟩
  | 2 => ⟨S_, .f32⟩
  | 3 => ⟨S_, .f32⟩
  | 4 => ⟨S128x128, .f32⟩
  | 5 => ⟨S128x128, .f32⟩
  | 6 => ⟨S1x128x128, .f32⟩
  | 7 => ⟨S4x1x1, .f32⟩
  | 8 => ⟨S4x128x128, .f32⟩
  | 9 => ⟨S4x128x128, .f32⟩
  | 10 => ⟨S4x128x128, .f32⟩
  | 11 => ⟨S4x128x128, .f32⟩
  | 12 => ⟨S_, .f32⟩
  | 13 => ⟨S_, .f32⟩
  | 14 => ⟨S4x128x128, .i1⟩
  | 15 => ⟨S4x128x128, .f32⟩
  | 16 => ⟨S4x128x128, .f32⟩
  | 17 => ⟨S8x32x4x128x128, .f32⟩
  | 18 => ⟨S1x1x4x128x128, .f32⟩
  | 19 => ⟨S8x32x4x128x128, .f32⟩
  | 20 => ⟨S8x32x4x128x128, .f32⟩
  | 21 => ⟨S8x32x4x128x128, .f32⟩
  | 22 => ⟨S8x32x128x4x128, .f32⟩
  | 23 => ⟨S_, .f32⟩
  | 24 => ⟨S128, .f32⟩
  | 25 => ⟨S128, .f32⟩
  | 26 => ⟨S128x1, .f32⟩
  | 27 => ⟨S1x4, .f32⟩
  | 28 => ⟨S128x4, .f32⟩
  | 29 => ⟨S128x4, .f32⟩
  | 30 => ⟨S128x4, .f32⟩
  | 31 => ⟨S128x4, .f32⟩
  | 32 => ⟨S1x1x128x4x1, .f32⟩
  | 33 => ⟨S8x32x128x4x64, .f32⟩
  | 34 => ⟨S8x32x128x4x64, .f32⟩
  | 35 => ⟨S8x32x4x128x128, .f32⟩
  | 36 => ⟨S8x32x128x4x128, .f32⟩
  | 37 => ⟨S8x32x128x4x128, .f32⟩
  | 38 => ⟨S8x4096x4x128, .f32⟩
  | 39 => ⟨S8x4096x4x64, .f32⟩
  | 40 => ⟨S8x4096x4x64, .f32⟩
  | 41 => ⟨S8x4096x4x128, .f32⟩
  | 42 => ⟨S8x32x4x64x128, .f32⟩
  | 43 => ⟨S8x32x128x4x64, .f32⟩
  | 44 => ⟨S8x32x128x4x64, .f32⟩
  | 45 => ⟨S8x32x128x4x128, .f32⟩
  | 46 => ⟨S128, .f32⟩
  | 47 => ⟨S128x1, .f32⟩
  | 48 => ⟨S1x128, .f32⟩
  | 49 => ⟨S128x128, .f32⟩
  | 50 => ⟨S128x128, .f32⟩
  | 51 => ⟨S128x128, .f32⟩
  | 52 => ⟨S_, .f32⟩
  | 53 => ⟨S128x128, .f32⟩
  | 54 => ⟨S128x128, .i1⟩
  | 55 => ⟨S1x128x128, .i1⟩
  | 56 => ⟨S_, .f32⟩
  | 57 => ⟨S_, .f32⟩
  | 58 => ⟨S128x128, .f32⟩
  | 59 => ⟨S128x128, .f32⟩
  | 60 => ⟨S1x128x128, .f32⟩
  | 61 => ⟨S4x1x1, .f32⟩
  | 62 => ⟨S4x128x128, .f32⟩
  | 63 => ⟨S4x128x128, .f32⟩
  | 64 => ⟨S4x128x128, .f32⟩
  | 65 => ⟨S4x128x128, .f32⟩
  | 66 => ⟨S_, .f32⟩
  | 67 => ⟨S_, .f32⟩
  | 68 => ⟨S4x128x128, .i1⟩
  | 69 => ⟨S4x128x128, .f32⟩
  | 70 => ⟨S4x128x128, .f32⟩
  | 71 => ⟨S8x32x4x128x128, .f32⟩
  | 72 => ⟨S1x1x4x128x128, .f32⟩
  | 73 => ⟨S8x32x4x128x128, .f32⟩
  | 74 => ⟨S8x32x4x128x128, .f32⟩
  | 75 => ⟨S8x32x4x128x128, .f32⟩
  | 76 => ⟨S8x32x128x4x128, .f32⟩
  | 77 => ⟨S_, .f32⟩
  | 78 => ⟨S128, .f32⟩
  | 79 => ⟨S128, .f32⟩
  | 80 => ⟨S128x1, .f32⟩
  | 81 => ⟨S1x4, .f32⟩
  | 82 => ⟨S128x4, .f32⟩
  | 83 => ⟨S128x4, .f32⟩
  | 84 => ⟨S128x4, .f32⟩
  | 85 => ⟨S128x4, .f32⟩
  | 86 => ⟨S1x1x128x4x1, .f32⟩
  | 87 => ⟨S8x32x128x4x64, .f32⟩
  | 88 => ⟨S8x32x128x4x64, .f32⟩
  | 89 => ⟨S8x32x4x128x128, .f32⟩
  | 90 => ⟨S8x32x128x4x128, .f32⟩
  | 91 => ⟨S8x32x128x4x128, .f32⟩
  | 92 => ⟨S8x4096x4x128, .f32⟩
  | 93 => ⟨S8x4096x4x128, .f32⟩
  | 94 => ⟨S8x4096x4x128, .f32⟩
  | 95 => ⟨S_, .f32⟩
  | 96 => ⟨S8x4096x4, .f32⟩
  | 97 => ⟨S8x4096x4x1, .f32⟩
  | 98 => ⟨S_, .f32⟩
  | 99 => ⟨S8x4096x4x1, .f32⟩
  | 100 => ⟨S8x4096x4x1, .f32⟩
  | 101 => ⟨S8x4096x4x128, .f32⟩
  | 102 => ⟨S8x4096x4x128, .f32⟩
  | 103 => ⟨S8x4096x4x128, .f32⟩
  | 104 => ⟨S_, .f32⟩
  | 105 => ⟨S8x4096x4, .f32⟩
  | 106 => ⟨S8x4096x4x1, .f32⟩
  | 107 => ⟨S_, .f32⟩
  | 108 => ⟨S8x4096x4x1, .f32⟩
  | 109 => ⟨S8x4096x4x1, .f32⟩
  | 110 => ⟨S_, .f32⟩
  | 111 => ⟨S8x4096x4x1, .f32⟩
  | 112 => ⟨S8x4096x4x1, .f32⟩
  | 113 => ⟨S8x4096x4x1, .f32⟩
  | 114 => ⟨S8x4096x4x128, .f32⟩
  | 115 => ⟨S8x4096x4x128, .f32⟩
  | 116 => ⟨S8x4096x512, .f32⟩
  | 117 => ⟨S8x4096x512, .f32⟩
  | 118 => ⟨S8x4096x512, .f32⟩
  | 119 => ⟨S8x4096x512, .f32⟩
  | 120 => ⟨S_, .f32⟩
  | 121 => ⟨S8x4096x512, .f32⟩
  | 122 => ⟨S8x4096x512, .f32⟩
  | 123 => ⟨S_, .f32⟩
  | 124 => ⟨S8x4096x512, .f32⟩
  | 125 => ⟨S8x4096x512, .f32⟩
  | 126 => ⟨S8x4096x512, .f32⟩
  | 127 => ⟨S8x4096x512, .f32⟩
  | _ => ⟨S8x4096x6400, .bf16⟩

abbrev hbmTy0_2 (i : Nat) : BufTy := match i % 128 with
  | 0 => ⟨S8x4096x512, .f32⟩
  | 1 => ⟨S8x4096x512, .f32⟩
  | 2 => ⟨S8x4096x512, .f32⟩
  | 3 => ⟨S8x4096x512, .f32⟩
  | 4 => ⟨S_, .f32⟩
  | 5 => ⟨S8x4096x512, .f32⟩
  | 6 => ⟨S8x4096x512, .f32⟩
  | 7 => ⟨S8x4096x512, .f32⟩
  | 8 => ⟨S_, .f32⟩
  | 9 => ⟨S8x4096x512, .f32⟩
  | 10 => ⟨S8x4096x512, .f32⟩
  | 11 => ⟨S8x4096x512, .f32⟩
  | 12 => ⟨S_, .f32⟩
  | 13 => ⟨S8x4096x512, .f32⟩
  | 14 => ⟨S8x4096x512, .f32⟩
  | 15 => ⟨S_, .f32⟩
  | 16 => ⟨S8x4096x512, .f32⟩
  | 17 => ⟨S8x4096x512, .f32⟩
  | 18 => ⟨S8x4096x512, .f32⟩
  | 19 => ⟨S8x4096x512, .f32⟩
  | 20 => ⟨S8x4096x512, .f32⟩
  | 21 => ⟨S_, .f32⟩
  | 22 => ⟨S8x4096x512, .f32⟩
  | 23 => ⟨S8x4096x512, .f32⟩
  | 24 => ⟨S8x4096x512, .f32⟩
  | 25 => ⟨S_, .f32⟩
  | 26 => ⟨S8x4096x512, .f32⟩
  | 27 => ⟨S8x4096x512, .f32⟩
  | 28 => ⟨S8x4096x512, .f32⟩
  | 29 => ⟨S_, .f32⟩
  | 30 => ⟨S8x4096x512, .f32⟩
  | 31 => ⟨S8x4096x512, .f32⟩
  | 32 => ⟨S_, .f32⟩
  | 33 => ⟨S8x4096x512, .f32⟩
  | 34 => ⟨S8x4096x512, .f32⟩
  | 35 => ⟨S8x4096x512, .f32⟩
  | 36 => ⟨S_, .f32⟩
  | 37 => ⟨S8x4096, .f32⟩
  | 38 => ⟨S8x4096x1, .f32⟩
  | 39 => ⟨S_, .f32⟩
  | 40 => ⟨S8x4096x1, .f32⟩
  | 41 => ⟨S8x4096x1, .f32⟩
  | 42 => ⟨S8x4096x512, .f32⟩
  | 43 => ⟨S8x4096x512, .f32⟩
  | 44 => ⟨S8x4096x512, .f32⟩
  | 45 => ⟨S_, .f32⟩
  | 46 => ⟨S8x4096, .f32⟩
  | 47 => ⟨S8x4096x1, .f32⟩
  | 48 => ⟨S_, .f32⟩
  | 49 => ⟨S8x4096x1, .f32⟩
  | 50 => ⟨S8x4096x1, .f32⟩
  | 51 => ⟨S_, .f32⟩
  | 52 => ⟨S8x4096x1, .f32⟩
  | 53 => ⟨S8x4096x1, .f32⟩
  | 54 => ⟨S8x4096x1, .f32⟩
  | 55 => ⟨S8x4096x512, .f32⟩
  | 56 => ⟨S8x4096x512, .f32⟩
  | 57 => ⟨S8x32x128x4x128, .f32⟩
  | 58 => ⟨S4x8x32x128x128, .f32⟩
  | 59 => ⟨S8x32x128x4x128, .f32⟩
  | 60 => ⟨S128x4, .f32⟩
  | 61 => ⟨S128x4x1, .f32⟩
  | 62 => ⟨S1x1x128x4x1, .f32⟩
  | 63 => ⟨S8x32x128x4x128, .f32⟩
  | 64 => ⟨S8x32x128x4x128, .f32⟩
  | 65 => ⟨S8x4096x512, .f32⟩
  | 66 => ⟨S8x4096x512, .f32⟩
  | 67 => ⟨S8x4096x512, .bf16⟩
  | 68 => ⟨S8x4096x512, .bf16⟩
  | _ => ⟨S8x4096x6400, .bf16⟩

abbrev hbmTy (i : Nat) : BufTy := match i / 128 with
  | 0 => hbmTy0_0 i
  | 1 => hbmTy0_1 i
  | 2 => hbmTy0_2 i
  | _ => ⟨S8x4096x6400, .bf16⟩

abbrev bufTy : (tb : Table) → Fin (tcTables nBuf tb) → BufTy
  | .hbm, ⟨i, _⟩ => hbmTy i
  | _, _ => ⟨S8x4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v29 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_1 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_2 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_3 : Ref sig .tc := ⟨.hbm, 130, rfl⟩
abbrev main_call2_v0 : Ref sig .tc := ⟨.hbm, 131, rfl⟩
abbrev main_call2_v1 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_4 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_5 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_6 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_7 : Ref sig .tc := ⟨.hbm, 184, rfl⟩
abbrev main_call4_v0 : Ref sig .tc := ⟨.hbm, 185, rfl⟩
abbrev main_call4_v1 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_8 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_9 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_10 : Ref sig .tc := ⟨.hbm, 223, rfl⟩
abbrev main_v165 : Ref sig .tc := ⟨.hbm, 224, rfl⟩
abbrev main_v166 : Ref sig .tc := ⟨.hbm, 225, rfl⟩
abbrev main_cst_11 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_12 : Ref sig .tc := ⟨.hbm, 232, rfl⟩
abbrev main_v172 : Ref sig .tc := ⟨.hbm, 233, rfl⟩
abbrev main_v173 : Ref sig .tc := ⟨.hbm, 234, rfl⟩
abbrev main_cst_13 : Ref sig .tc := ⟨.hbm, 235, rfl⟩
abbrev main_v174 : Ref sig .tc := ⟨.hbm, 236, rfl⟩
abbrev main_v175 : Ref sig .tc := ⟨.hbm, 237, rfl⟩
abbrev main_cst_14 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_call6_v0 : Ref sig .tc := ⟨.hbm, 246, rfl⟩
abbrev main_call6_v1 : Ref sig .tc := ⟨.hbm, 247, rfl⟩
abbrev main_call6_cst : Ref sig .tc := ⟨.hbm, 248, rfl⟩
abbrev main_call6_v2 : Ref sig .tc := ⟨.hbm, 249, rfl⟩
abbrev main_call6_v3 : Ref sig .tc := ⟨.hbm, 250, rfl⟩
abbrev main_call6_cst_0 : Ref sig .tc := ⟨.hbm, 251, rfl⟩
abbrev main_call6_v4 : Ref sig .tc := ⟨.hbm, 252, rfl⟩
abbrev main_call6_v5 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_15 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_cst_16 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_17 : Ref sig .tc := ⟨.hbm, 268, rfl⟩
abbrev main_v195 : Ref sig .tc := ⟨.hbm, 269, rfl⟩
abbrev main_v196 : Ref sig .tc := ⟨.hbm, 270, rfl⟩
abbrev main_cst_18 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_cst_19 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_cst_20 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_cst_21 : Ref sig .tc := ⟨.hbm, 285, rfl⟩
abbrev main_v208 : Ref sig .tc := ⟨.hbm, 286, rfl⟩
abbrev main_v209 : Ref sig .tc := ⟨.hbm, 287, rfl⟩
abbrev main_cst_22 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_cst_23 : Ref sig .tc := ⟨.hbm, 292, rfl⟩
abbrev main_v213 : Ref sig .tc := ⟨.hbm, 293, rfl⟩
abbrev main_v214 : Ref sig .tc := ⟨.hbm, 294, rfl⟩
abbrev main_cst_24 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_cst_25 : Ref sig .tc := ⟨.hbm, 301, rfl⟩
abbrev main_v220 : Ref sig .tc := ⟨.hbm, 302, rfl⟩
abbrev main_v221 : Ref sig .tc := ⟨.hbm, 303, rfl⟩
abbrev main_cst_26 : Ref sig .tc := ⟨.hbm, 304, rfl⟩
abbrev main_v222 : Ref sig .tc := ⟨.hbm, 305, rfl⟩
abbrev main_v223 : Ref sig .tc := ⟨.hbm, 306, rfl⟩
abbrev main_cst_27 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩

abbrev nD : Nat := 1
abbrev τ : Topo := Topo.v7x

variable {F : FTy → Type} [FloatOps F]
-- ==== Proj.lean ====
abbrev S8x4096x1024 : Shape := ⟨3, ![8, 4096, 1024]⟩
abbrev S8x1x1024 : Shape := ⟨3, ![8, 1, 1024]⟩
abbrev S1024 : Shape := ⟨1, ![1024]⟩
abbrev S1024x6400 : Shape := ⟨2, ![1024, 6400]⟩
abbrev S1x1x1024 : Shape := ⟨3, ![1, 1, 1024]⟩
abbrev S_ : Shape := ⟨0, ![]⟩
abbrev S8x4096x6400 : Shape := ⟨3, ![8, 4096, 6400]⟩
abbrev S1x2048x1024 : Shape := ⟨3, ![1, 2048, 1024]⟩
abbrev S1024x1280 : Shape := ⟨2, ![1024, 1280]⟩
abbrev S1x2048x1280 : Shape := ⟨3, ![1, 2048, 1280]⟩
abbrev S2048x1024 : Shape := ⟨2, ![2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x1280 : Shape := ⟨2, ![256, 1280]⟩
abbrev S1x256x1280 : Shape := ⟨3, ![1, 256, 1280]⟩
abbrev S2048x1280 : Shape := ⟨2, ![2048, 1280]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x6400, .f32⟩
  | .hbm, ⟨5, _⟩ => ⟨S1x1x1024, .f32⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024x6400, .bf16⟩
  | .hbm, ⟨12, _⟩ => ⟨S8x4096x6400, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1280, .bf16⟩
  | .local _ .vmem, ⟨7, _⟩ => ⟨S1024x1280, .bf16⟩
  | .local _ .vmem, ⟨8, _⟩ => ⟨S1x2048x1280, .bf16⟩
  | .local _ .vmem, ⟨9, _⟩ => ⟨S1x2048x1280, .bf16⟩
  | .local _ .vmem, ⟨10, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ProjRefIdeal.lean ====
abbrev S8x4096x1024 : Shape := ⟨3, ![8, 4096, 1024]⟩
abbrev S8x1x1024 : Shape := ⟨3, ![8, 1, 1024]⟩
abbrev S1024 : Shape := ⟨1, ![1024]⟩
abbrev S1024x6400 : Shape := ⟨2, ![1024, 6400]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6400 : Shape := ⟨3, ![8, 4096, 6400]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x6400, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x6400, .f32⟩
  | .hbm, ⟨29, _⟩ => ⟨S8x4096x6400, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Merge.lean ====
abbrev S8x4096x512 : Shape := ⟨3, ![8, 4096, 512]⟩
abbrev S8x4096x6400 : Shape := ⟨3, ![8, 4096, 6400]⟩
abbrev S8x4096x1024 : Shape := ⟨3, ![8, 4096, 1024]⟩
abbrev S8x1x1024 : Shape := ⟨3, ![8, 1, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S1x1x1024 : Shape := ⟨3, ![1, 1, 1024]⟩
abbrev S_ : Shape := ⟨0, ![]⟩
abbrev S1024x128 : Shape := ⟨2, ![1024, 128]⟩
abbrev S1 : Shape := ⟨1, ![1]⟩
abbrev S8x4096x1x1024 : Shape := ⟨4, ![8, 4096, 1, 1024]⟩
abbrev S8x4096x128 : Shape := ⟨3, ![8, 4096, 128]⟩
abbrev S1x512x512 : Shape := ⟨3, ![1, 512, 512]⟩
abbrev S1x512x256 : Shape := ⟨3, ![1, 512, 256]⟩
abbrev S1x512x1024 : Shape := ⟨3, ![1, 512, 1024]⟩
abbrev S1x512x1x1024 : Shape := ⟨4, ![1, 512, 1, 1024]⟩
abbrev S1x512x128 : Shape := ⟨3, ![1, 512, 128]⟩
abbrev S512x512 : Shape := ⟨2, ![512, 512]⟩
abbrev S512x1024 : Shape := ⟨2, ![512, 1024]⟩
abbrev S512x256 : Shape := ⟨2, ![512, 256]⟩
abbrev S1x1024 : Shape := ⟨2, ![1, 1024]⟩
abbrev S512 : Shape := ⟨1, ![512]⟩
abbrev S512x1 : Shape := ⟨2, ![512, 1]⟩
abbrev S512x128 : Shape := ⟨2, ![512, 128]⟩

abbrev nBuf : Space → Nat
  | .hbm => 29
  | .vmem => 47
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x6400, .bf16⟩
  | .hbm, ⟨4, _⟩ => ⟨S8x4096x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x16, .f32⟩
  | .hbm, ⟨12, _⟩ => ⟨S1x1x1024, .f32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S1024x128, .bf16⟩
  | .hbm, ⟨19, _⟩ => ⟨S3x512x1024, .bf16⟩
  | .hbm, ⟨20, _⟩ => ⟨S1024x1024, .bf16⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1x1024, .f32⟩
  | .hbm, ⟨28, _⟩ => ⟨S8x4096x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x1024, .f32⟩
  | .local _ .vmem, ⟨31, _⟩ => ⟨S1x512x1024, .f32⟩
  | .local _ .vmem, ⟨32, _⟩ => ⟨S3x512x1024, .bf16⟩
  | .local _ .vmem, ⟨33, _⟩ => ⟨S1024x1024, .bf16⟩
  | .local _ .vmem, ⟨34, _⟩ => ⟨S1x1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x1x1024, .f32⟩
  | .local _ .vmem, ⟨38, _⟩ => ⟨S1x1x1024, .f32⟩
  | .local _ .vmem, ⟨39, _⟩ => ⟨S1x1x1024, .f32⟩
  | .local _ .vmem, ⟨40, _⟩ => ⟨S1024x128, .bf16⟩
  | .local _ .vmem, ⟨41, _⟩ => ⟨S1x512x1024, .f32⟩
  | .local _ .vmem, ⟨42, _⟩ => ⟨S1x512x1024, .f32⟩
  | .local _ .vmem, ⟨43, _⟩ => ⟨S1x512x1x1024, .f32⟩
  | .local _ .vmem, ⟨44, _⟩ => ⟨S1x512x1x1024, .f32⟩
  | .local _ .vmem, ⟨45, _⟩ => ⟨S1x512x128, .f32⟩
  | .local _ .vmem, ⟨46, _⟩ => ⟨S1x512x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_4 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_7 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_8 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_9 (i : grid0.Coords) : Fin 3 → Nat :=
  let arg0 : BitVec 32 := BitVec.ofNat 32 (i 0).val
  let arg1 : BitVec 32 := BitVec.ofNat 32 (i 1).val
  let c19_i32 : BitVec 32 := 19#32
  let c0_i32 : BitVec 32 := 0#32
  ![arg0.toNat, arg1.toNat, c19_i32.toNat]

def cc0_transform_10 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_11 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_12 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_13 (i : grid0.Coords) : Fin 3 → Nat :=
  let arg0 : BitVec 32 := BitVec.ofNat 32 (i 0).val
  let arg1 : BitVec 32 := BitVec.ofNat 32 (i 1).val
  let c23_i32 : BitVec 32 := 23#32
  let c0_i32 : BitVec 32 := 0#32
  ![arg0.toNat, arg1.toNat, c23_i32.toNat]

def cc0_transform_14 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S3x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 1 → Memref sig .tc .vmem S1024x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== MergeIdeal.lean ====
variable {F : FTy → Type} [FloatOps F] [Named F]
def κ : String → Option EReal := fun
  | "neg_inf" => some ⊥
  | _ => none
-- ==== MergeRefIdeal.lean ====
abbrev S8x4096x512 : Shape := ⟨3, ![8, 4096, 512]⟩
abbrev S8x4096x6400 : Shape := ⟨3, ![8, 4096, 6400]⟩
abbrev S8x4096x1024 : Shape := ⟨3, ![8, 4096, 1024]⟩
abbrev S8x1x1024 : Shape := ⟨3, ![8, 1, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S8x4096x3072 : Shape := ⟨3, ![8, 4096, 3072]⟩
abbrev S8x4096x3x1024 : Shape := ⟨4, ![8, 4096, 3, 1024]⟩
abbrev S_ : Shape := ⟨0, ![]⟩
abbrev S8x4096x1x1024 : Shape := ⟨4, ![8, 4096, 1, 1024]⟩
abbrev S1x512x1024 : Shape := ⟨3, ![1, 512, 1024]⟩
abbrev S512x1024 : Shape := ⟨2, ![512, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16 : Shape := ⟨3, ![8, 4096, 16]⟩
abbrev S8x4096x128 : Shape := ⟨3, ![8, 4096, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x6400, .bf16⟩
  | .hbm, ⟨4, _⟩ => ⟨S8x4096x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024, .f32⟩
  | .hbm, ⟨9, _⟩ => ⟨S3x512x1024, .f32⟩
  | .hbm, ⟨10, _⟩ => ⟨S1024x1024, .f32⟩
  | .hbm, ⟨11, _⟩ => ⟨S1024x16, .f32⟩
  | .hbm, ⟨12, _⟩ => ⟨S8x4096x3072, .bf16⟩
  | .hbm, ⟨13, _⟩ => ⟨S8x4096x3072, .f32⟩
  | .hbm, ⟨14, _⟩ => ⟨S8x4096x3x1024, .f32⟩
  | .hbm, ⟨15, _⟩ => ⟨S8x4096x3x1024, .f32⟩
  | .hbm, ⟨16, _⟩ => ⟨S8x4096x3x1024, .f32⟩
  | .hbm, ⟨17, _⟩ => ⟨S_, .f32⟩
  | .hbm, ⟨18, _⟩ => ⟨S8x4096x3x1024, .f32⟩
  | .hbm, ⟨19, _⟩ => ⟨S8x4096x3x1024, .f32⟩
  | .hbm, ⟨20, _⟩ => ⟨S_, .f32⟩
  | .hbm, ⟨21, _⟩ => ⟨S8x4096x3x1024, .f32⟩
  | .hbm, ⟨22, _⟩ => ⟨S8x4096x3x1024, .f32⟩
  | .hbm, ⟨23, _⟩ => ⟨S8x4096x1x1024, .f32⟩
  | .hbm, ⟨24, _⟩ => ⟨S8x4096x1024, .f32⟩
  | .hbm, ⟨25, _⟩ => ⟨S8x4096x512, .f32⟩
  | .hbm, ⟨26, _⟩ => ⟨S1x512x1024, .f32⟩
  | .hbm, ⟨27, _⟩ => ⟨S512x1024, .f32⟩
  | .hbm, ⟨28, _⟩ => ⟨S8x4096x1024, .f32⟩
  | .hbm, ⟨29, _⟩ => ⟨S8x4096x1024, .f32⟩
  | .hbm, ⟨30, _⟩ => ⟨S8x4096x1x1024, .f32⟩
  | .hbm, ⟨31, _⟩ => ⟨S8x4096x1024, .f32⟩
  | .hbm, ⟨32, _⟩ => ⟨S8x4096x512, .f32⟩
  | .hbm, ⟨33, _⟩ => ⟨S1x512x1024, .f32⟩
  | .hbm, ⟨34, _⟩ => ⟨S512x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1x1024, .f32⟩
  | .hbm, ⟨39, _⟩ => ⟨S8x4096x1024, .f32⟩
  | .hbm, ⟨40, _⟩ => ⟨S8x4096x512, .f32⟩
  | .hbm, ⟨41, _⟩ => ⟨S1x512x1024, .f32⟩
  | .hbm, ⟨42, _⟩ => ⟨S512x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x1x1024, .f32⟩
  | .hbm, ⟨68, _⟩ => ⟨S8x1x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x16, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x16, .f32⟩
  | .hbm, ⟨78, _⟩ => ⟨S8x4096x16, .f32⟩
  | .hbm, ⟨79, _⟩ => ⟨S8x4096x16, .f32⟩
  | .hbm, ⟨80, _⟩ => ⟨S_, .i32⟩
  | .hbm, ⟨81, _⟩ => ⟨S_, .f32⟩
  | .hbm, ⟨82, _⟩ => ⟨S8x4096x128, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S8x4096x128, .f32⟩
  | .hbm, ⟨87, _⟩ => ⟨S8x4096x128, .f32⟩
  | .hbm, ⟨88, _⟩ => ⟨S8x4096x1x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c : Ref sig .tc := ⟨.hbm, 80, rfl⟩
abbrev main_call0_v0 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== States.lean ====
abbrev S8x4096x6400 : Shape := ⟨3, ![8, 4096, 6400]⟩
abbrev S8x4x64x128 : Shape := ⟨4, ![8, 4, 64, 128]⟩
abbrev S4 : Shape := ⟨1, ![4]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S256 : Shape := ⟨1, ![256]⟩
abbrev S1x256 : Shape := ⟨2, ![1, 256]⟩
abbrev S4x1 : Shape := ⟨2, ![4, 1]⟩
abbrev S4x128 : Shape := ⟨2, ![4, 128]⟩
abbrev S2x2x128 : Shape := ⟨3, ![2, 2, 128]⟩
abbrev S2x128x2 : Shape := ⟨3, ![2, 128, 2]⟩
abbrev S2x128x2x64 : Shape := ⟨4, ![2, 128, 2, 64]⟩
abbrev S2x128x128 : Shape := ⟨3, ![2, 128, 128]⟩
abbrev S2x2 : Shape := ⟨2, ![2, 2]⟩
abbrev S2x2x64 : Shape := ⟨3, ![2, 2, 64]⟩
abbrev S2x128 : Shape := ⟨2, ![2, 128]⟩
abbrev S2x128x1 : Shape := ⟨3, ![2, 128, 1]⟩
abbrev S2x128x256 : Shape := ⟨3, ![2, 128, 256]⟩
abbrev S128x256 : Shape := ⟨2, ![128, 256]⟩
abbrev S8x2x2x64x1x128 : Shape := ⟨6, ![8, 2, 2, 64, 1, 128]⟩
abbrev S2x1x2x1 : Shape := ⟨4, ![2, 1, 2, 1]⟩
abbrev S1x1x2x1x2x1 : Shape := ⟨6, ![1, 1, 2, 1, 2, 1]⟩
abbrev S8x2x2x64x2x128 : Shape := ⟨6, ![8, 2, 2, 64, 2, 128]⟩
abbrev S8x2x128x256 : Shape := ⟨4, ![8, 2, 128, 256]⟩
abbrev S8x32x2x128x256 : Shape := ⟨5, ![8, 32, 2, 128, 256]⟩
abbrev S1x1024x256 : Shape := ⟨3, ![1, 1024, 256]⟩
abbrev S1x1024x512 : Shape := ⟨3, ![1, 1024, 512]⟩
abbrev S1024x128 : Shape := ⟨2, ![1024, 128]⟩
abbrev S1x2x128x256 : Shape := ⟨4, ![1, 2, 128, 256]⟩
abbrev S1x8x2x128x256 : Shape := ⟨5, ![1, 8, 2, 128, 256]⟩
abbrev S1x128x256 : Shape := ⟨3, ![1, 128, 256]⟩
abbrev S1x128x512 : Shape := ⟨3, ![1, 128, 512]⟩
abbrev S128x512 : Shape := ⟨2, ![128, 512]⟩
abbrev S1x1x1x128x256 : Shape := ⟨5, ![1, 1, 1, 128, 256]⟩

abbrev nBuf : Space → Nat
  | .hbm => 258
  | .vmem => 35
  | .smem => 0
  | _ => 0

abbrev hbmTy0_0 (i : Nat) : BufTy := match i % 128 with
  | 0 => ⟨S8x4096x6400, .bf16⟩
  | 1 => ⟨S8x4x64x128, .f32⟩
  | 2 => ⟨S8x4x64x128, .f32⟩
  | 3 => ⟨S4, .f32⟩
  | 4 => ⟨S4, .f32⟩
  | 5 => ⟨S64, .i32⟩
  | 6 => ⟨S64x64, .i32⟩
  | 7 => ⟨S4096, .i32⟩
  | 8 => ⟨S4096, .f32⟩
  | 9 => ⟨S64, .i32⟩
  | 10 => ⟨S1x64, .i32⟩
  | 11 => ⟨S64x64, .i32⟩
  | 12 => ⟨S4096, .i32⟩
  | 13 => ⟨S4096, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x32, .f32⟩
  | 33 => ⟨S4096x32, .f32⟩
  | 34 => ⟨S4096x32, .f32⟩
  | 35 => ⟨S4096x64, .f32⟩
  | 36 => ⟨S1x4096x1x64, .f32⟩
  | 37 => ⟨S1x4096x2x64, .f32⟩
  | 38 => ⟨S4096x128, .f32⟩
  | 39 => ⟨S4096x32, .f32⟩
  | 40 => ⟨S4096x64, .f32⟩
  | 41 => ⟨S1x4096x1x64, .f32⟩
  | 42 => ⟨S1x4096x2x64, .f32⟩
  | 43 => ⟨S4096x128, .f32⟩
  | 44 => ⟨S4, .f32⟩
  | 45 => ⟨S_, .f32⟩
  | 46 => ⟨S4, .f32⟩
  | 47 => ⟨S4, .f32⟩
  | 48 => ⟨S4, .f32⟩
  | 49 => ⟨S4, .f32⟩
  | 50 => ⟨S4, .i1⟩
  | 51 => ⟨S4, .f32⟩
  | 52 => ⟨S4, .f32⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S4, .f32⟩
  | 61 => ⟨S_, .f32⟩
  | 62 => ⟨S4, .f32⟩
  | 63 => ⟨S4, .f32⟩
  | 64 => ⟨S4, .f32⟩
  | 65 => ⟨S4, .f32⟩
  | 66 => ⟨S4, .i1⟩
  | 67 => ⟨S4, .f32⟩
  | 68 => ⟨S4, .f32⟩
  | 69 => ⟨S4, .f32⟩
  | 70 => ⟨S4, .f32⟩
  | 71 => ⟨S4, .f32⟩
  | 72 => ⟨S4, .f32⟩
  | 73 => ⟨S4, .f32⟩
  | 74 => ⟨S4, .f32⟩
  | 75 => ⟨S4, .f32⟩
  | 76 => ⟨S128, .f32⟩
  | 77 => ⟨S128x1, .f32⟩
  | 78 => ⟨S1x128, .f32⟩
  | 79 => ⟨S128x128, .f32⟩
  | 80 => ⟨S128x128, .f32⟩
  | 81 => ⟨S128x128, .f32⟩
  | 82 => ⟨S_, .f32⟩
  | 83 => ⟨S128x128, .f32⟩
  | 84 => ⟨S128x128, .i1⟩
  | 85 => ⟨S_, .f32⟩
  | 86 => ⟨S128x128, .f32⟩
  | 87 => ⟨S128x128, .f32⟩
  | 88 => ⟨S1x128x128, .f32⟩
  | 89 => ⟨S4x1x1, .f32⟩
  | 90 => ⟨S4x128x128, .f32⟩
  | 91 => ⟨S4x128x128, .f32⟩
  | 92 => ⟨S4x128x128, .f32⟩
  | 93 => ⟨S4x128x128, .f32⟩
  | 94 => ⟨S128x128, .f32⟩
  | 95 => ⟨S_, .f32⟩
  | 96 => ⟨S128x128, .f32⟩
  | 97 => ⟨S128x128, .f32⟩
  | 98 => ⟨S1x128x128, .f32⟩
  | 99 => ⟨S4x1x1, .f32⟩
  | 100 => ⟨S4x128x128, .f32⟩
  | 101 => ⟨S4x128x128, .f32⟩
  | 102 => ⟨S4x128x128, .f32⟩
  | 103 => ⟨S4x128x128, .f32⟩
  | 104 => ⟨S4x128x128, .i1⟩
  | 105 => ⟨S4x128x128, .f32⟩
  | 106 => ⟨S_, .f32⟩
  | 107 => ⟨S4x128x128, .f32⟩
  | 108 => ⟨S4x128x128, .f32⟩
  | 109 => ⟨S128, .i32⟩
  | 110 => ⟨S128x1, .i32⟩
  | 111 => ⟨S_, .i32⟩
  | 112 => ⟨S_, .i32⟩
  | 113 => ⟨S128x1, .i32⟩
  | 114 => ⟨S128x1, .i32⟩
  | 115 => ⟨S128x1, .i32⟩
  | 116 => ⟨S_, .i32⟩
  | 117 => ⟨S128x1, .i32⟩
  | 118 => ⟨S128x1, .i1⟩
  | 119 => ⟨S128x1, .i32⟩
  | 120 => ⟨S128x1, .i32⟩
  | 121 => ⟨S_, .i32⟩
  | 122 => ⟨S128x1, .i32⟩
  | 123 => ⟨S128x1, .i1⟩
  | 124 => ⟨S128x1, .i1⟩
  | 125 => ⟨S_, .i32⟩
  | 126 => ⟨S128x1, .i32⟩
  | 127 => ⟨S128x1, .i32⟩
  | _ => ⟨S8x4096x6400, .bf16⟩

abbrev hbmTy0_1 (i : Nat) : BufTy := match i % 128 with
  | 0 => ⟨S128x1, .i32⟩
  | 1 => ⟨S256, .i32⟩
  | 2 => ⟨S1x256, .i32⟩
  | 3 => ⟨S_, .i32⟩
  | 4 => ⟨S_, .i32⟩
  | 5 => ⟨S1x256, .i32⟩
  | 6 => ⟨S1x256, .i32⟩
  | 7 => ⟨S1x256, .i32⟩
  | 8 => ⟨S_, .i32⟩
  | 9 => ⟨S1x256, .i32⟩
  | 10 => ⟨S1x256, .i1⟩
  | 11 => ⟨S1x256, .i32⟩
  | 12 => ⟨S1x256, .i32⟩
  | 13 => ⟨S_, .i32⟩
  | 14 => ⟨S1x256, .i32⟩
  | 15 => ⟨S1x256, .i1⟩
  | 16 => ⟨S1x256, .i1⟩
  | 17 => ⟨S_, .i32⟩
  | 18 => ⟨S1x256, .i32⟩
  | 19 => ⟨S1x256, .i32⟩
  | 20 => ⟨S1x256, .i32⟩
  | 21 => ⟨S_, .f32⟩
  | 22 => ⟨S128, .f32⟩
  | 23 => ⟨S128, .f32⟩
  | 24 => ⟨S1x128, .f32⟩
  | 25 => ⟨S4x1, .f32⟩
  | 26 => ⟨S4x128, .f32⟩
  | 27 => ⟨S4x128, .f32⟩
  | 28 => ⟨S4x128, .f32⟩
  | 29 => ⟨S4x128, .f32⟩
  | 30 => ⟨S2x2x128, .f32⟩
  | 31 => ⟨S2x128x2, .f32⟩
  | 32 => ⟨S2x128x2x64, .f32⟩
  | 33 => ⟨S2x128x128, .f32⟩
  | 34 => ⟨S_, .f32⟩
  | 35 => ⟨S2x128x128, .f32⟩
  | 36 => ⟨S2x128x128, .f32⟩
  | 37 => ⟨S1x128, .f32⟩
  | 38 => ⟨S4x1, .f32⟩
  | 39 => ⟨S4x128, .f32⟩
  | 40 => ⟨S4x128, .f32⟩
  | 41 => ⟨S4x128, .f32⟩
  | 42 => ⟨S4x128, .f32⟩
  | 43 => ⟨S2x2x128, .f32⟩
  | 44 => ⟨S2x128x2, .f32⟩
  | 45 => ⟨S2x128x2x64, .f32⟩
  | 46 => ⟨S2x128x128, .f32⟩
  | 47 => ⟨S_, .f32⟩
  | 48 => ⟨S2x128x128, .f32⟩
  | 49 => ⟨S2x128x128, .f32⟩
  | 50 => ⟨S_, .f32⟩
  | 51 => ⟨S128, .f32⟩
  | 52 => ⟨S128, .f32⟩
  | 53 => ⟨S1x128, .f32⟩
  | 54 => ⟨S4x1, .f32⟩
  | 55 => ⟨S4x128, .f32⟩
  | 56 => ⟨S4x128, .f32⟩
  | 57 => ⟨S4x128, .f32⟩
  | 58 => ⟨S4x128, .f32⟩
  | 59 => ⟨S2x2x128, .f32⟩
  | 60 => ⟨S2x128x2, .f32⟩
  | 61 => ⟨S2x128x2x64, .f32⟩
  | 62 => ⟨S2x128x128, .f32⟩
  | 63 => ⟨S_, .f32⟩
  | 64 => ⟨S128, .f32⟩
  | 65 => ⟨S128, .f32⟩
  | 66 => ⟨S1x128, .f32⟩
  | 67 => ⟨S4x1, .f32⟩
  | 68 => ⟨S4x128, .f32⟩
  | 69 => ⟨S4x128, .f32⟩
  | 70 => ⟨S4x128, .f32⟩
  | 71 => ⟨S4x128, .f32⟩
  | 72 => ⟨S2x2x128, .f32⟩
  | 73 => ⟨S2x128x2, .f32⟩
  | 74 => ⟨S2x128x2x64, .f32⟩
  | 75 => ⟨S2x128x128, .f32⟩
  | 76 => ⟨S_, .f32⟩
  | 77 => ⟨S4, .f32⟩
  | 78 => ⟨S4, .f32⟩
  | 79 => ⟨S4, .f32⟩
  | 80 => ⟨S2x2, .f32⟩
  | 81 => ⟨S2x2x64, .f32⟩
  | 82 => ⟨S2x128, .f32⟩
  | 83 => ⟨S2x128x1, .f32⟩
  | 84 => ⟨S2x128x256, .f32⟩
  | 85 => ⟨S_, .f32⟩
  | 86 => ⟨S4, .f32⟩
  | 87 => ⟨S4, .f32⟩
  | 88 => ⟨S4, .f32⟩
  | 89 => ⟨S2x2, .f32⟩
  | 90 => ⟨S2x2x64, .f32⟩
  | 91 => ⟨S2x128, .f32⟩
  | 92 => ⟨S2x128x1, .f32⟩
  | 93 => ⟨S2x128x256, .f32⟩
  | 94 => ⟨S128x256, .i32⟩
  | 95 => ⟨S128x256, .i32⟩
  | 96 => ⟨S128x256, .i1⟩
  | 97 => ⟨S128x256, .f32⟩
  | 98 => ⟨S8x2x2x64x1x128, .f32⟩
  | 99 => ⟨S2x2, .i32⟩
  | 100 => ⟨S2x2, .i32⟩
  | 101 => ⟨S_, .i32⟩
  | 102 => ⟨S2x2, .i32⟩
  | 103 => ⟨S2x2, .i32⟩
  | 104 => ⟨S2x2, .i1⟩
  | 105 => ⟨S2x2, .f32⟩
  | 106 => ⟨S2x1x2x1, .f32⟩
  | 107 => ⟨S1x1x2x1x2x1, .f32⟩
  | 108 => ⟨S8x2x2x64x2x128, .f32⟩
  | 109 => ⟨S8x2x2x64x2x128, .f32⟩
  | 110 => ⟨S8x2x2x64x2x128, .f32⟩
  | 111 => ⟨S8x2x128x256, .f32⟩
  | 112 => ⟨S8x2x2x64x1x128, .f32⟩
  | 113 => ⟨S2x2, .i32⟩
  | 114 => ⟨S2x2, .i32⟩
  | 115 => ⟨S_, .i32⟩
  | 116 => ⟨S2x2, .i32⟩
  | 117 => ⟨S2x2, .i32⟩
  | 118 => ⟨S2x2, .i1⟩
  | 119 => ⟨S2x2, .f32⟩
  | 120 => ⟨S2x1x2x1, .f32⟩
  | 121 => ⟨S1x1x2x1x2x1, .f32⟩
  | 122 => ⟨S8x2x2x64x2x128, .f32⟩
  | 123 => ⟨S8x2x2x64x2x128, .f32⟩
  | 124 => ⟨S8x2x2x64x2x128, .f32⟩
  | 125 => ⟨S8x2x128x256, .f32⟩
  | 126 => ⟨S8x32x2x128x256, .bf16⟩
  | 127 => ⟨S8x32x2x128x256, .bf16⟩
  | _ => ⟨S8x4096x6400, .bf16⟩

abbrev hbmTy0_2 (i : Nat) : BufTy := match i % 128 with
  | 0 => ⟨S8x2x128x256, .f32⟩
  | 1 => ⟨S8x2x128x256, .f32⟩
  | _ => ⟨S8x4096x6400, .bf16⟩

abbrev hbmTy (i : Nat) : BufTy := match i / 128 with
  | 0 => hbmTy0_0 i
  | 1 => hbmTy0_1 i
  | 2 => hbmTy0_2 i
  | _ => ⟨S8x4096x6400, .bf16⟩

abbrev bufTy : (tb : Table) → Fin (tcTables nBuf tb) → BufTy
  | .hbm, ⟨i, _⟩ => hbmTy i
  | .local _ .vmem, ⟨0, _⟩ => ⟨S1x1024x256, .bf16⟩
  | .local _ .vmem, ⟨1, _⟩ => ⟨S1x1024x256, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S2x128x128, .f32⟩
  | .local _ .vmem, ⟨17, _⟩ => ⟨S2x128x128, .f32⟩
  | .local _ .vmem, ⟨18, _⟩ => ⟨S2x128x256, .f32⟩
  | .local _ .vmem, ⟨19, _⟩ => ⟨S2x128x256, .f32⟩
  | .local _ .vmem, ⟨20, _⟩ => ⟨S128x256, .f32⟩
  | .local _ .vmem, ⟨21, _⟩ => ⟨S1x2x128x256, .f32⟩
  | .local _ .vmem, ⟨22, _⟩ => ⟨S1x2x128x256, .f32⟩
  | .local _ .vmem, ⟨23, _⟩ => ⟨S1x2x128x256, .f32⟩
  | .local _ .vmem, ⟨24, _⟩ => ⟨S1x2x128x256, .f32⟩
  | .local _ .vmem, ⟨25, _⟩ => ⟨S1x8x2x128x256, .bf16⟩
  | .local _ .vmem, ⟨26, _⟩ => ⟨S1x8x2x128x256, .bf16⟩
  | .local _ .vmem, ⟨27, _⟩ => ⟨S1x8x2x128x256, .bf16⟩
  | .local _ .vmem, ⟨28, _⟩ => ⟨S1x8x2x128x256, .bf16⟩
  | .local _ .vmem, ⟨29, _⟩ => ⟨S1x2x128x256, .f32⟩
  | .local _ .vmem, ⟨30, _⟩ => ⟨S1x2x128x256, .f32⟩
  | .local _ .vmem, ⟨31, _⟩ => ⟨S1x2x128x256, .f32⟩
  | .local _ .vmem, ⟨32, _⟩ => ⟨S1x2x128x256, .f32⟩
  | .local _ .vmem, ⟨33, _⟩ => ⟨S2x128x256, .f32⟩
  | .local _ .vmem, ⟨34, _⟩ => ⟨S2x128x256, .f32⟩
  | _, _ => ⟨S8x4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v37 : Ref sig .tc := ⟨.hbm, 59, rfl⟩
abbrev main_call1_v0 : Ref sig .tc := ⟨.hbm, 60, rfl⟩
abbrev main_call1_call0_cst : Ref sig .tc := ⟨.hbm, 61, rfl⟩
abbrev main_call1_call0_v0 : Ref sig .tc := ⟨.hbm, 62, rfl⟩
abbrev main_call1_call0_v1 : Ref sig .tc := ⟨.hbm, 63, rfl⟩
abbrev main_call1_call0_v2 : Ref sig .tc := ⟨.hbm, 64, rfl⟩
abbrev main_call1_call0_v3 : Ref sig .tc := ⟨.hbm, 65, rfl⟩
abbrev main_call1_call0_v4 : Ref sig .tc := ⟨.hbm, 66, rfl⟩
abbrev main_call1_call0_v5 : Ref sig .tc := ⟨.hbm, 67, rfl⟩
abbrev main_call1_call0_v6 : Ref sig .tc := ⟨.hbm, 68, rfl⟩
abbrev main_call1_call0_v7 : Ref sig .tc := ⟨.hbm, 69, rfl⟩
abbrev main_call1_call0_v8 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_v1 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_1 : Ref sig .tc := ⟨.hbm, 82, rfl⟩
abbrev main_v45 : Ref sig .tc := ⟨.hbm, 83, rfl⟩
abbrev main_v46 : Ref sig .tc := ⟨.hbm, 84, rfl⟩
abbrev main_cst_2 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_3 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call2_v0 : Ref sig .tc := ⟨.hbm, 104, rfl⟩
abbrev main_v64 : Ref sig .tc := ⟨.hbm, 105, rfl⟩
abbrev main_cst_4 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_c : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_0 : Ref sig .tc := ⟨.hbm, 125, rfl⟩
abbrev main_call3_v12 : Ref sig .tc := ⟨.hbm, 126, rfl⟩
abbrev main_call3_v13 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_c_5 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_c : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_0 : Ref sig .tc := ⟨.hbm, 145, rfl⟩
abbrev main_call4_v12 : Ref sig .tc := ⟨.hbm, 146, rfl⟩
abbrev main_call4_v13 : Ref sig .tc := ⟨.hbm, 147, rfl⟩
abbrev main_v72 : Ref sig .tc := ⟨.hbm, 148, rfl⟩
abbrev main_cst_6 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_cst_7 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_8 : Ref sig .tc := ⟨.hbm, 175, rfl⟩
abbrev main_v97 : Ref sig .tc := ⟨.hbm, 176, rfl⟩
abbrev main_v98 : Ref sig .tc := ⟨.hbm, 177, rfl⟩
abbrev main_cst_9 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_cst_10 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_cst_11 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_12 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_c_13 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_c_14 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169_0 : Ref sig .tc := ⟨.hbm, 254, rfl⟩
abbrev main_v169_1 : Ref sig .tc := ⟨.hbm, 255, rfl⟩
abbrev main_v169_2 : Ref sig .tc := ⟨.hbm, 256, rfl⟩
abbrev main_v169_3 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v1299 : BitVec 1 := Scalar.cmpi .eq arg1 c3_i32
  let v1300 : BitVec 32 := Scalar.extui v1299
  let c0_i32_975 : BitVec 32 := 0#32
  let v1301 : BitVec 1 := Scalar.cmpi .ne v1300 c0_i32_975
  v1301

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let c0_i32 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let c0_i32 : BitVec 32 := 0#32
  ![arg0.toNat, v0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_16 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x2x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x2x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x2x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x2x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== StatesRefIdeal.lean ====
abbrev S8x4096x6400 : Shape := ⟨3, ![8, 4096, 6400]⟩
abbrev S8x4x64x128 : Shape := ⟨4, ![8, 4, 64, 128]⟩
abbrev S4 : Shape := ⟨1, ![4]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x4096x256 : Shape := ⟨3, ![8, 4096, 256]⟩
abbrev S8x4096x4x64 : Shape := ⟨4, ![8, 4096, 4, 64]⟩
abbrev S4096x1x32 : Shape := ⟨3, ![4096, 1, 32]⟩
abbrev S8x4096x4x32 : Shape := ⟨4, ![8, 4096, 4, 32]⟩
abbrev S1x4096x1x32 : Shape := ⟨4, ![1, 4096, 1, 32]⟩
abbrev S8x4096x512 : Shape := ⟨3, ![8, 4096, 512]⟩
abbrev S8x4096x4x128 : Shape := ⟨4, ![8, 4096, 4, 128]⟩
abbrev S128 : Shape := ⟨1, ![128]⟩
abbrev S33 : Shape := ⟨1, ![33]⟩
abbrev S32 : Shape := ⟨1, ![32]⟩
abbrev S33x1 : Shape := ⟨2, ![33, 1]⟩
abbrev S1x32 : Shape := ⟨2, ![1, 32]⟩
abbrev S33x32 : Shape := ⟨2, ![33, 32]⟩
abbrev S8x32x128x4x64 : Shape := ⟨5, ![8, 32, 128, 4, 64]⟩
abbrev S8x32x128x4x128 : Shape := ⟨5, ![8, 32, 128, 4, 128]⟩
abbrev S128x1 : Shape := ⟨2, ![128, 1]⟩
abbrev S1x4 : Shape := ⟨2, ![1, 4]⟩
abbrev S128x4 : Shape := ⟨2, ![128, 4]⟩
abbrev S1x1x128x4x1 : Shape := ⟨5, ![1, 1, 128, 4, 1]⟩
abbrev S8x32x4x64x128 : Shape := ⟨5, ![8, 32, 4, 64, 128]⟩
abbrev S33x32x1 : Shape := ⟨3, ![33, 32, 1]⟩
abbrev S1x1x4 : Shape := ⟨3, ![1, 1, 4]⟩
abbrev S33x32x4 : Shape := ⟨3, ![33, 32, 4]⟩
abbrev S33x4 : Shape := ⟨2, ![33, 4]⟩
abbrev S1x33x4x1x1 : Shape := ⟨5, ![1, 33, 4, 1, 1]⟩
abbrev S8x1x4x64x128 : Shape := ⟨5, ![8, 1, 4, 64, 128]⟩
abbrev S8x33x4x64x128 : Shape := ⟨5, ![8, 33, 4, 64, 128]⟩
abbrev S4x8x64x128x33 : Shape := ⟨5, ![4, 8, 64, 128, 33]⟩
abbrev S8x33x2x64x128 : Shape := ⟨5, ![8, 33, 2, 64, 128]⟩
abbrev S8x33x2x64x256 : Shape := ⟨5, ![8, 33, 2, 64, 256]⟩
abbrev S8x33x2x128x256 : Shape := ⟨5, ![8, 33, 2, 128, 256]⟩
abbrev S8x32x2x128x256 : Shape := ⟨5, ![8, 32, 2, 128, 256]⟩
abbrev S8x1x2x128x256 : Shape := ⟨5, ![8, 1, 2, 128, 256]⟩
abbrev S8x2x128x256 : Shape := ⟨4, ![8, 2, 128, 256]⟩

abbrev nBuf : Space → Nat
  | .hbm => 240
  | .vmem => 0
  | .smem => 0
  | _ => 0

abbrev hbmTy0_0 (i : Nat) : BufTy := match i % 128 with
  | 0 => ⟨S8x4096x6400, .bf16⟩
  | 1 => ⟨S8x4x64x128, .f32⟩
  | 2 => ⟨S8x4x64x128, .f32⟩
  | 3 => ⟨S4, .f32⟩
  | 4 => ⟨S4, .f32⟩
  | 5 => ⟨S8x4096x6400, .f32⟩
  | 6 => ⟨S64, .i32⟩
  | 7 => ⟨S64x64, .i32⟩
  | 8 => ⟨S4096, .i32⟩
  | 9 => ⟨S4096, .f32⟩
  | 10 => ⟨S64, .i32⟩
  | 11 => ⟨S1x64, .i32⟩
  | 12 => ⟨S64x64, .i32⟩
  | 13 => ⟨S4096, .i32⟩
  | 14 => ⟨S4096, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x32, .f32⟩
  | 34 => ⟨S4096x32, .f32⟩
  | 35 => ⟨S4096x32, .f32⟩
  | 36 => ⟨S8x4096x256, .f32⟩
  | 37 => ⟨S8x4096x4x64, .f32⟩
  | 38 => ⟨S4096x1x32, .f32⟩
  | 39 => ⟨S4096x1x32, .f32⟩
  | 40 => ⟨S8x4096x4x32, .f32⟩
  | 41 => ⟨S8x4096x4x32, .f32⟩
  | 42 => ⟨S1x4096x1x32, .f32⟩
  | 43 => ⟨S8x4096x4x32, .f32⟩
  | 44 => ⟨S8x4096x4x32, .f32⟩
  | 45 => ⟨S1x4096x1x32, .f32⟩
  | 46 => ⟨S8x4096x4x32, .f32⟩
  | 47 => ⟨S8x4096x4x32, .f32⟩
  | 48 => ⟨S8x4096x4x32, .f32⟩
  | 49 => ⟨S1x4096x1x32, .f32⟩
  | 50 => ⟨S8x4096x4x32, .f32⟩
  | 51 => ⟨S8x4096x4x32, .f32⟩
  | 52 => ⟨S1x4096x1x32, .f32⟩
  | 53 => ⟨S8x4096x4x32, .f32⟩
  | 54 => ⟨S8x4096x4x32, .f32⟩
  | 55 => ⟨S8x4096x4x32, .f32⟩
  | 56 => ⟨S8x4096x4x64, .f32⟩
  | 57 => ⟨S_, .f32⟩
  | 58 => ⟨S8x4096x4x64, .f32⟩
  | 59 => ⟨S8x4096x4x64, .f32⟩
  | 60 => ⟨S8x4096x512, .f32⟩
  | 61 => ⟨S8x4096x4x128, .f32⟩
  | 62 => ⟨S128, .f32⟩
  | 63 => ⟨S33, .f32⟩
  | 64 => ⟨S32, .f32⟩
  | 65 => ⟨S4, .f32⟩
  | 66 => ⟨S_, .f32⟩
  | 67 => ⟨S4, .f32⟩
  | 68 => ⟨S4, .f32⟩
  | 69 => ⟨S4, .f32⟩
  | 70 => ⟨S4, .f32⟩
  | 71 => ⟨S4, .i1⟩
  | 72 => ⟨S4, .f32⟩
  | 73 => ⟨S4, .f32⟩
  | 74 => ⟨S4, .f32⟩
  | 75 => ⟨S4, .f32⟩
  | 76 => ⟨S4, .f32⟩
  | 77 => ⟨S4, .f32⟩
  | 78 => ⟨S4, .f32⟩
  | 79 => ⟨S4, .f32⟩
  | 80 => ⟨S4, .f32⟩
  | 81 => ⟨S_, .f32⟩
  | 82 => ⟨S128, .f32⟩
  | 83 => ⟨S128, .f32⟩
  | 84 => ⟨S33x1, .f32⟩
  | 85 => ⟨S_, .f32⟩
  | 86 => ⟨S33x1, .f32⟩
  | 87 => ⟨S33x1, .f32⟩
  | 88 => ⟨S1x32, .f32⟩
  | 89 => ⟨S33x32, .f32⟩
  | 90 => ⟨S33x32, .f32⟩
  | 91 => ⟨S33x32, .f32⟩
  | 92 => ⟨S8x32x128x4x64, .f32⟩
  | 93 => ⟨S8x32x128x4x128, .f32⟩
  | 94 => ⟨S128x1, .f32⟩
  | 95 => ⟨S1x4, .f32⟩
  | 96 => ⟨S128x4, .f32⟩
  | 97 => ⟨S128x4, .f32⟩
  | 98 => ⟨S128x4, .f32⟩
  | 99 => ⟨S128x4, .f32⟩
  | 100 => ⟨S1x1x128x4x1, .f32⟩
  | 101 => ⟨S8x32x128x4x64, .f32⟩
  | 102 => ⟨S8x32x128x4x64, .f32⟩
  | 103 => ⟨S8x32x4x64x128, .f32⟩
  | 104 => ⟨S_, .f32⟩
  | 105 => ⟨S33x32, .f32⟩
  | 106 => ⟨S33x32, .i1⟩
  | 107 => ⟨S33x32x1, .i1⟩
  | 108 => ⟨S_, .f32⟩
  | 109 => ⟨S33x32, .f32⟩
  | 110 => ⟨S33x32, .f32⟩
  | 111 => ⟨S33x32x1, .f32⟩
  | 112 => ⟨S_, .f32⟩
  | 113 => ⟨S33x32x1, .f32⟩
  | 114 => ⟨S33x32x1, .f32⟩
  | 115 => ⟨S1x1x4, .f32⟩
  | 116 => ⟨S33x32x4, .f32⟩
  | 117 => ⟨S33x32x4, .f32⟩
  | 118 => ⟨S33x32x4, .f32⟩
  | 119 => ⟨S33x32x4, .f32⟩
  | 120 => ⟨S_, .f32⟩
  | 121 => ⟨S_, .f32⟩
  | 122 => ⟨S33x32x4, .i1⟩
  | 123 => ⟨S33x32x4, .f32⟩
  | 124 => ⟨S33x32x4, .f32⟩
  | 125 => ⟨S33x1, .f32⟩
  | 126 => ⟨S_, .f32⟩
  | 127 => ⟨S33x1, .f32⟩
  | _ => ⟨S8x4096x6400, .bf16⟩

abbrev hbmTy0_1 (i : Nat) : BufTy := match i % 128 with
  | 0 => ⟨S33x1, .f32⟩
  | 1 => ⟨S1x4, .f32⟩
  | 2 => ⟨S33x4, .f32⟩
  | 3 => ⟨S33x4, .f32⟩
  | 4 => ⟨S33x4, .f32⟩
  | 5 => ⟨S33x4, .f32⟩
  | 6 => ⟨S1x33x4x1x1, .f32⟩
  | 7 => ⟨S8x1x4x64x128, .f32⟩
  | 8 => ⟨S8x33x4x64x128, .f32⟩
  | 9 => ⟨S8x33x4x64x128, .f32⟩
  | 10 => ⟨S8x33x4x64x128, .f32⟩
  | 11 => ⟨S4x8x64x128x33, .f32⟩
  | 12 => ⟨S8x33x4x64x128, .f32⟩
  | 13 => ⟨S8x33x4x64x128, .f32⟩
  | 14 => ⟨S8x33x2x64x128, .f32⟩
  | 15 => ⟨S_, .f32⟩
  | 16 => ⟨S8x33x2x64x128, .f32⟩
  | 17 => ⟨S8x33x2x64x128, .f32⟩
  | 18 => ⟨S8x33x2x64x256, .f32⟩
  | 19 => ⟨S8x33x2x64x128, .f32⟩
  | 20 => ⟨S8x33x2x64x256, .f32⟩
  | 21 => ⟨S8x33x2x128x256, .f32⟩
  | 22 => ⟨S4, .f32⟩
  | 23 => ⟨S_, .f32⟩
  | 24 => ⟨S4, .f32⟩
  | 25 => ⟨S4, .f32⟩
  | 26 => ⟨S4, .f32⟩
  | 27 => ⟨S4, .f32⟩
  | 28 => ⟨S4, .i1⟩
  | 29 => ⟨S4, .f32⟩
  | 30 => ⟨S4, .f32⟩
  | 31 => ⟨S4, .f32⟩
  | 32 => ⟨S4, .f32⟩
  | 33 => ⟨S4, .f32⟩
  | 34 => ⟨S4, .f32⟩
  | 35 => ⟨S4, .f32⟩
  | 36 => ⟨S4, .f32⟩
  | 37 => ⟨S4, .f32⟩
  | 38 => ⟨S_, .f32⟩
  | 39 => ⟨S33, .f32⟩
  | 40 => ⟨S33, .f32⟩
  | 41 => ⟨S1x32, .f32⟩
  | 42 => ⟨S33x1, .f32⟩
  | 43 => ⟨S33x32, .f32⟩
  | 44 => ⟨S33x32, .f32⟩
  | 45 => ⟨S33x32, .f32⟩
  | 46 => ⟨S8x32x128x4x64, .f32⟩
  | 47 => ⟨S8x32x128x4x128, .f32⟩
  | 48 => ⟨S128x1, .f32⟩
  | 49 => ⟨S1x4, .f32⟩
  | 50 => ⟨S128x4, .f32⟩
  | 51 => ⟨S128x4, .f32⟩
  | 52 => ⟨S128x4, .f32⟩
  | 53 => ⟨S128x4, .f32⟩
  | 54 => ⟨S1x1x128x4x1, .f32⟩
  | 55 => ⟨S8x32x128x4x64, .f32⟩
  | 56 => ⟨S8x32x128x4x64, .f32⟩
  | 57 => ⟨S8x32x4x64x128, .f32⟩
  | 58 => ⟨S_, .f32⟩
  | 59 => ⟨S33x32, .f32⟩
  | 60 => ⟨S33x32, .i1⟩
  | 61 => ⟨S33x32x1, .i1⟩
  | 62 => ⟨S_, .f32⟩
  | 63 => ⟨S33x32, .f32⟩
  | 64 => ⟨S33x32, .f32⟩
  | 65 => ⟨S33x32x1, .f32⟩
  | 66 => ⟨S_, .f32⟩
  | 67 => ⟨S33x32x1, .f32⟩
  | 68 => ⟨S33x32x1, .f32⟩
  | 69 => ⟨S1x1x4, .f32⟩
  | 70 => ⟨S33x32x4, .f32⟩
  | 71 => ⟨S33x32x4, .f32⟩
  | 72 => ⟨S33x32x4, .f32⟩
  | 73 => ⟨S33x32x4, .f32⟩
  | 74 => ⟨S_, .f32⟩
  | 75 => ⟨S_, .f32⟩
  | 76 => ⟨S33x32x4, .i1⟩
  | 77 => ⟨S33x32x4, .f32⟩
  | 78 => ⟨S33x32x4, .f32⟩
  | 79 => ⟨S33x1, .f32⟩
  | 80 => ⟨S_, .f32⟩
  | 81 => ⟨S33x1, .f32⟩
  | 82 => ⟨S33x1, .f32⟩
  | 83 => ⟨S1x4, .f32⟩
  | 84 => ⟨S33x4, .f32⟩
  | 85 => ⟨S33x4, .f32⟩
  | 86 => ⟨S33x4, .f32⟩
  | 87 => ⟨S33x4, .f32⟩
  | 88 => ⟨S1x33x4x1x1, .f32⟩
  | 89 => ⟨S8x1x4x64x128, .f32⟩
  | 90 => ⟨S8x33x4x64x128, .f32⟩
  | 91 => ⟨S8x33x4x64x128, .f32⟩
  | 92 => ⟨S8x33x4x64x128, .f32⟩
  | 93 => ⟨S4x8x64x128x33, .f32⟩
  | 94 => ⟨S8x33x4x64x128, .f32⟩
  | 95 => ⟨S8x33x4x64x128, .f32⟩
  | 96 => ⟨S8x33x2x64x128, .f32⟩
  | 97 => ⟨S_, .f32⟩
  | 98 => ⟨S8x33x2x64x128, .f32⟩
  | 99 => ⟨S8x33x2x64x128, .f32⟩
  | 100 => ⟨S8x33x2x64x256, .f32⟩
  | 101 => ⟨S8x33x2x64x128, .f32⟩
  | 102 => ⟨S8x33x2x64x256, .f32⟩
  | 103 => ⟨S8x33x2x128x256, .f32⟩
  | 104 => ⟨S8x32x2x128x256, .f32⟩
  | 105 => ⟨S8x32x2x128x256, .bf16⟩
  | 106 => ⟨S8x32x2x128x256, .f32⟩
  | 107 => ⟨S8x32x2x128x256, .bf16⟩
  | 108 => ⟨S8x1x2x128x256, .f32⟩
  | 109 => ⟨S8x2x128x256, .f32⟩
  | 110 => ⟨S8x1x2x128x256, .f32⟩
  | 111 => ⟨S8x2x128x256, .f32⟩
  | _ => ⟨S8x4096x6400, .bf16⟩

abbrev hbmTy (i : Nat) : BufTy := match i / 128 with
  | 0 => hbmTy0_0 i
  | 1 => hbmTy0_1 i
  | _ => ⟨S8x4096x6400, .bf16⟩

abbrev bufTy : (tb : Table) → Fin (tcTables nBuf tb) → BufTy
  | .hbm, ⟨i, _⟩ => hbmTy i
  | _, _ => ⟨S8x4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_1 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_call0_v0 : Ref sig .tc := ⟨.hbm, 65, rfl⟩
abbrev main_call0_call0_cst : Ref sig .tc := ⟨.hbm, 66, rfl⟩
abbrev main_call0_call0_v0 : Ref sig .tc := ⟨.hbm, 67, rfl⟩
abbrev main_call0_call0_v1 : Ref sig .tc := ⟨.hbm, 68, rfl⟩
abbrev main_call0_call0_v2 : Ref sig .tc := ⟨.hbm, 69, rfl⟩
abbrev main_call0_call0_v3 : Ref sig .tc := ⟨.hbm, 70, rfl⟩
abbrev main_call0_call0_v4 : Ref sig .tc := ⟨.hbm, 71, rfl⟩
abbrev main_call0_call0_v5 : Ref sig .tc := ⟨.hbm, 72, rfl⟩
abbrev main_call0_call0_v6 : Ref sig .tc := ⟨.hbm, 73, rfl⟩
abbrev main_call0_call0_v7 : Ref sig .tc := ⟨.hbm, 74, rfl⟩
abbrev main_call0_call0_v8 : Ref sig .tc := ⟨.hbm, 75, rfl⟩
abbrev main_call0_call0_v9 : Ref sig .tc := ⟨.hbm, 76, rfl⟩
abbrev main_call0_call0_v10 : Ref sig .tc := ⟨.hbm, 77, rfl⟩
abbrev main_call0_call0_v11 : Ref sig .tc := ⟨.hbm, 78, rfl⟩
abbrev main_call0_v1 : Ref sig .tc := ⟨.hbm, 79, rfl⟩
abbrev main_v57 : Ref sig .tc := ⟨.hbm, 80, rfl⟩
abbrev main_cst_2 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_3 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_4 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_5 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_6 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_7 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v92 : Ref sig .tc := ⟨.hbm, 124, rfl⟩
abbrev main_v93 : Ref sig .tc := ⟨.hbm, 125, rfl⟩
abbrev main_cst_8 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_9 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_call2_v0 : Ref sig .tc := ⟨.hbm, 150, rfl⟩
abbrev main_call2_call0_cst : Ref sig .tc := ⟨.hbm, 151, rfl⟩
abbrev main_call2_call0_v0 : Ref sig .tc := ⟨.hbm, 152, rfl⟩
abbrev main_call2_call0_v1 : Ref sig .tc := ⟨.hbm, 153, rfl⟩
abbrev main_call2_call0_v2 : Ref sig .tc := ⟨.hbm, 154, rfl⟩
abbrev main_call2_call0_v3 : Ref sig .tc := ⟨.hbm, 155, rfl⟩
abbrev main_call2_call0_v4 : Ref sig .tc := ⟨.hbm, 156, rfl⟩
abbrev main_call2_call0_v5 : Ref sig .tc := ⟨.hbm, 157, rfl⟩
abbrev main_call2_call0_v6 : Ref sig .tc := ⟨.hbm, 158, rfl⟩
abbrev main_call2_call0_v7 : Ref sig .tc := ⟨.hbm, 159, rfl⟩
abbrev main_call2_call0_v8 : Ref sig .tc := ⟨.hbm, 160, rfl⟩
abbrev main_call2_call0_v9 : Ref sig .tc := ⟨.hbm, 161, rfl⟩
abbrev main_call2_call0_v10 : Ref sig .tc := ⟨.hbm, 162, rfl⟩
abbrev main_call2_call0_v11 : Ref sig .tc := ⟨.hbm, 163, rfl⟩
abbrev main_call2_v1 : Ref sig .tc := ⟨.hbm, 164, rfl⟩
abbrev main_v116 : Ref sig .tc := ⟨.hbm, 165, rfl⟩
abbrev main_cst_10 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_11 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_12 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_13 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_14 : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_v149 : Ref sig .tc := ⟨.hbm, 206, rfl⟩
abbrev main_v150 : Ref sig .tc := ⟨.hbm, 207, rfl⟩
abbrev main_cst_15 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_16 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩

abbrev nD : Nat := 1
abbrev τ : Topo := Topo.v7x

variable {F : FTy → Type} [FloatOps F]
-- ==== Proof.MixBlock.lean ====
module

public import proofs.«01_k».proof.Proof.Gen.MixIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixValue

open Cert.MixIdeal Cert.MixIdeal.Gen

variable (m : (ℓ : Loc nD τ sig) → Buf (Elt Ideal) ℓ)

/-- The GELU in its tanh form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The GELU of a row of the gate branch less its mean. -/
def centred (x5 : FVec Ideal S1x1024x512 .bf16) (r : Fin 1024) (l : Fin 512) : EReal :=
  gelu (x5 (ix3 0 r l)) - Ideal.div (∑ l' : Fin 512, gelu (x5 (ix3 0 r l'))) (Ideal.ofBits .f32 0x44000000#32)

/-- The layer norm of a row of the gate branch. -/
def gated (x5 : FVec Ideal S1x1024x512 .bf16) (r : Fin 1024) (l : Fin 512) : EReal :=
  centred x5 r l * Ideal.rsqrt (Ideal.div (∑ l' : Fin 512, centred x5 r l' * centred x5 r l') (Ideal.ofBits .f32 0x44000000#32)
    + Ideal.ofBits .f32 0x358637BD#32)

/-- One block of the gating unit: the GELU of the branch times the chunk mixing of the normed gate plus the bias. -/
def sguBlk (x4 x5 : FVec Ideal S1x1024x512 .bf16) (x13 : FVec Ideal S4x128x128 .bf16) (x14 : FVec Ideal S128x512 .f32) :
    FVec Ideal S1x1024x512 .bf16 := fun y =>
  gelu (x4 (ix3 0 (y 1) (y 2)))
    * (∑ j : Fin 128, x13 (ix3 ⟨(y 2).val / 128, by have := (y 2).isLt; simp at this; omega⟩ ⟨(y 1).val % 128, by omega⟩ j)
          * gated x5 ⟨128 * ((y 1).val / 128) + j.val, by have := (y 1).isLt; simp at this; omega⟩ (y 2)
        + x14 (ix2 ⟨(y 1).val % 128, by omega⟩ (y 2)))

/-- What a grid point stores as the gating unit, in thirty-two pieces. -/
theorem sgu_A (c : Dev nD) (t : Fin cfg0.N) :
    (outsAt0 m c t).2 = sguBlk (X0_4 m c t) (X0_5 m c t) (iblk m c 13 t) (iblk m c 14 t) := by
  unfold outsAt0
  frame_out
  funext y
  canon_tiles x h
  all_goals (open_payloads; pointwise [sguBlk, gated, centred, gelu])
  all_goals blk_point []

/-- Lane `d` of a pair of heads after the rotary embedding: the lane times the cosine plus its partner lane times the
    signed sine. -/
def roped (x : FVec Ideal S1x1024x256 .bf16) (cos sin : FVec Ideal S1024x128 .f32) (r : Fin 1024) (p : Fin 2) (d : Fin 128) : EReal :=
  x (ix3 0 r ⟨128 * p.val + d.val, by omega⟩) * cos (ix2 r d)
    + Scalar.select (IntOp.cmpi .eq (IntOp.andi (BitVec.ofNat 32 d.val) 32#32) 0#32)
        (x (ix3 0 r ⟨128 * p.val + (d.val + 128 - 96) % 128, by omega⟩))
        (x (ix3 0 r ⟨128 * p.val + (d.val + 128 - 32) % 128, by omega⟩)) * sin (ix2 r d)

/-- The lanes of one head of a pair kept, the other head's put to zero. -/
def headOnly (a : ℕ) (d : Fin 128) (x : EReal) : EReal := if d.val / 64 = a then x else 0

/-- The first head's mask of the kernel. -/
theorem select_first (d : Fin 128) (x : EReal) :
    (Scalar.select (IntOp.cmpi .slt (BitVec.ofNat 32 d.val) 64#32) x (0 : EReal)) = headOnly 0 d x := by
  have h : IntOp.cmpi .slt (BitVec.ofNat 32 d.val) 64#32 = if d.val / 64 = 0 then 1#1 else 0#1 := by
    revert d; decide
  rw [h, headOnly]
  split <;> rfl

/-- The second head's mask of the kernel. -/
theorem select_second (d : Fin 128) (x : EReal) :
    (Scalar.select (IntOp.xori (IntOp.cmpi .slt (BitVec.ofNat 32 d.val) 64#32) 1#1) x (0 : EReal)) = headOnly 1 d x := by
  have h : IntOp.xori (IntOp.cmpi .slt (BitVec.ofNat 32 d.val) 64#32) 1#1 = if d.val / 64 = 1 then 1#1 else 0#1 := by
    revert d; decide
  rw [h, headOnly]
  split <;> rfl

/-- The retention of head `h` in chunk `n` of the block, at row `i` of the chunk and value lane `e`: the decayed scores
    inside the chunk times the values, plus the decayed query times the two states that the chunk reads. -/
def retained (x0 x1 : FVec Ideal S1x1024x256 .bf16) (x2 : FVec Ideal S1x1024x512 .bf16) (cos sin : FVec Ideal S1024x128 .f32)
    (sf sb : FVec Ideal S1x8x2x128x256 .bf16) (dm : FVec Ideal S4x128x128 .f32) (qdf qdb : FVec Ideal S2x128x128 .f32)
    (n : Fin 8) (i : Fin 128) (h : Fin 4) (e : Fin 128) : EReal :=
  ∑ j : Fin 128, (∑ d : Fin 128, headOnly (h.val % 2) d (roped x0 cos sin ⟨128 * n.val + i.val, by omega⟩ ⟨h.val / 2, by omega⟩ d
          * roped x1 cos sin ⟨128 * n.val + j.val, by omega⟩ ⟨h.val / 2, by omega⟩ d))
        * dm (ix3 h i j) * x2 (ix3 0 ⟨128 * n.val + j.val, by omega⟩ ⟨128 * h.val + e.val, by omega⟩)
    + (∑ d : Fin 128, roped x0 cos sin ⟨128 * n.val + i.val, by omega⟩ ⟨h.val / 2, by omega⟩ d * qdf (ix3 ⟨h.val / 2, by omega⟩ i d)
          * sf (ix5 0 n ⟨h.val / 2, by omega⟩ d ⟨128 * (h.val % 2) + e.val, by omega⟩)
      + ∑ d : Fin 128, roped x0 cos sin ⟨128 * n.val + i.val, by omega⟩ ⟨h.val / 2, by omega⟩ d * qdb (ix3 ⟨h.val / 2, by omega⟩ i d)
          * sb (ix5 0 n ⟨h.val / 2, by omega⟩ d ⟨128 * (h.val % 2) + e.val, by omega⟩))

/-- A head's 128 lanes less their mean. -/
def lessMean (o : Fin 128 → EReal) (e : Fin 128) : EReal := o e - Ideal.div (∑ l : Fin 128, o l) (Ideal.ofBits .f32 0x43000000#32)

/-- The layer norm of a head's 128 lanes. -/
def normed (o : Fin 128 → EReal) (e : Fin 128) : EReal :=
  lessMean o e * Ideal.rsqrt (Ideal.div (∑ l : Fin 128, lessMean o l * lessMean o l) (Ideal.ofBits .f32 0x43000000#32)
    + Ideal.ofBits .f32 0x358637BD#32)

/-- One block of the retention's output. -/
def retBlk (x0 x1 : FVec Ideal S1x1024x256 .bf16) (x2 x3 : FVec Ideal S1x1024x512 .bf16) (cos sin : FVec Ideal S1024x128 .f32)
    (sf sb : FVec Ideal S1x8x2x128x256 .bf16) (dm : FVec Ideal S4x128x128 .f32) (qdf qdb : FVec Ideal S2x128x128 .f32) :
    FVec Ideal S1x1024x512 .bf16 := fun y =>
  normed (retained x0 x1 x2 cos sin sf sb dm qdf qdb ⟨(y 1).val / 128, by have := (y 1).isLt; simp at this; omega⟩
      ⟨(y 1).val % 128, by omega⟩ ⟨(y 2).val / 128, by have := (y 2).isLt; simp at this; omega⟩) ⟨(y 2).val % 128, by omega⟩
    * (x3 (ix3 0 (y 1) (y 2)) * Ideal.logistic (x3 (ix3 0 (y 1) (y 2))))

/-- The block at a piece's index, the chunk and the head known. -/
theorem retBlk_piece (x0 x1 : FVec Ideal S1x1024x256 .bf16) (x2 x3 : FVec Ideal S1x1024x512 .bf16) (cos sin : FVec Ideal S1024x128 .f32)
    (sf sb : FVec Ideal S1x8x2x128x256 .bf16) (dm : FVec Ideal S4x128x128 .f32) (qdf qdb : FVec Ideal S2x128x128 .f32)
    (y : S1x1024x512.Idx) (x : S1x128x128.Idx) (n h : ℕ) (hn : n < 8) (hh : h < 4)
    (b1 : 128 * n + (x 1).val < 1024) (b2 : 128 * h + (x 2).val < 512)
    (h1 : (y 1).val = 128 * n + (x 1).val) (h2 : (y 2).val = 128 * h + (x 2).val) :
    retBlk x0 x1 x2 x3 cos sin sf sb dm qdf qdb y
      = normed (retained x0 x1 x2 cos sin sf sb dm qdf qdb ⟨n, hn⟩ (x 1) ⟨h, hh⟩) (x 2)
        * (x3 (ix3 0 ⟨128 * n + (x 1).val, b1⟩ ⟨128 * h + (x 2).val, b2⟩)
          * Ideal.logistic (x3 (ix3 0 ⟨128 * n + (x 1).val, b1⟩ ⟨128 * h + (x 2).val, b2⟩))) := by
  have hx1 : (x 1).val < 128 := (x 1).isLt
  have hx2 : (x 2).val < 128 := (x 2).isLt
  have e1 : (⟨(y 1).val / 128, by omega⟩ : Fin 8) = ⟨n, hn⟩ := Fin.ext (by show (y 1).val / 128 = n; omega)
  have e2 : (⟨(y 1).val % 128, by omega⟩ : Fin 128) = x 1 := Fin.ext (by show (y 1).val % 128 = (x 1).val; omega)
  have e3 : (⟨(y 2).val / 128, by omega⟩ : Fin 4) = ⟨h, hh⟩ := Fin.ext (by show (y 2).val / 128 = h; omega)
  have e4 : (⟨(y 2).val % 128, by omega⟩ : Fin 128) = x 2 := Fin.ext (by show (y 2).val % 128 = (x 2).val; omega)
  have e5 : (y 1 : Fin 1024) = ⟨128 * n + (x 1).val, b1⟩ := Fin.ext h1
  have e6 : (y 2 : Fin 512) = ⟨128 * h + (x 2).val, b2⟩ := Fin.ext h2
  show normed (retained x0 x1 x2 cos sin sf sb dm qdf qdb _ _ _) _ * (x3 (ix3 0 _ _) * Ideal.logistic (x3 (ix3 0 _ _))) = _
  rw [e1, e2, e3, e4, e5, e6]
  rfl

/-- The kernel's norm and gate of one head of a chunk, from the head's retention `o` and its gate lanes `g`. -/
def normPiece (o g : FVec Ideal S128x128 .f32) : FVec Ideal S1x128x128 .bf16 :=
  have mean : FVec Ideal S128x1 .f32 :=
    divf (shapeCast S128x1 (multiReduction .add [1] S128 o 0x00000000#32 reduces_S128x128_S128 (.inl rfl) rfl) shapeCasts_S128_S128x1)
      (broadcast S128x1 (Scalar.ofBits .f32 0x43000000#32))
  have oc : FVec Ideal S128x128 .f32 := subf o (broadcastTo S128x128 mean broadcasts_S128x1_S128x128)
  have var : FVec Ideal S128x1 .f32 :=
    divf (shapeCast S128x1 (multiReduction .add [1] S128 (mulf oc oc) 0x00000000#32 reduces_S128x128_S128 (.inl rfl) rfl) shapeCasts_S128_S128x1)
      (broadcast S128x1 (Scalar.ofBits .f32 0x43000000#32))
  have inv : FVec Ideal S128x1 .f32 := rsqrt (addf var (broadcast S128x1 (Scalar.ofBits .f32 0x358637BD#32)))
  shapeCast S1x128x128 (truncf .bf16 (mulf (mulf oc (broadcastTo S128x128 inv broadcasts_S128x1_S128x128)) (mulf g (logistic g))) bitsLt_bf16_f32)
    shapeCasts_S128x128_S1x128x128

/-- A piece read at an index. -/
theorem normPiece_apply (o g : FVec Ideal S128x128 .f32) (x : S1x128x128.Idx) :
    normPiece o g x = normed (fun l => o (ix2 (x 1) l)) (x 2) * (g (ix2 (x 1) (x 2)) * Ideal.logistic (g (ix2 (x 1) (x 2)))) := by
  pointwise [normPiece, normed, lessMean]

/-- A piece whose operands are known lane by lane. -/
theorem ret_of (o g : FVec Ideal S128x128 .f32) (x : S1x128x128.Idx) (o' : Fin 128 → EReal) (g' : EReal)
    (ho : ∀ l : Fin 128, o (ix2 (x 1) l) = o' l) (hg : g (ix2 (x 1) (x 2)) = g') :
    normPiece o g x = normed o' (x 2) * (g' * Ideal.logistic g') := by
  rw [normPiece_apply, hg, funext ho]

set_option maxHeartbeats 2000000 in
/-- What a grid point stores as the retention's output, in thirty-two pieces. -/
theorem ret_A (c : Dev nD) (t : Fin cfg0.N) :
    (outsAt0 m c t).1 = retBlk (iblk m c 0 t) (iblk m c 1 t) (X0_2 m c t) (X0_3 m c t) (iblk m c 6 t) (iblk m c 7 t)
      (iblk m c 8 t) (iblk m c 9 t) (iblk m c 10 t) (iblk m c 11 t) (iblk m c 12 t) := by
  unfold outsAt0
  frame_out
  funext y
  canon_tiles x h
  all_goals
    obtain ⟨n, hn⟩ : ∃ n, n = ((y 1).val - (x 1).val) / 128 := ⟨_, rfl⟩
    obtain ⟨h, hh⟩ : ∃ h, h = ((y 2).val - (x 2).val) / 128 := ⟨_, rfl⟩
    simp [h1] at hn
    simp [h2] at hh
    refine Eq.trans ?_ (retBlk_piece _ _ _ _ _ _ _ _ _ _ _ y x n h (by omega) (by omega) (by omega) (by omega) (by omega) (by omega)).symm
    subst hn hh
    open_payloads
    refine ret_of _ _ x _ _ (fun l => ?_) ?_
    · pointwise [retained, roped]
      simp only [select_first, select_second, Nat.mul_zero, Nat.zero_add, Nat.reduceMul, Nat.reduceDiv, Nat.reduceMod]
      try rfl
    · pointwise

end Cert.MixValue
-- ==== Proof.MixHost.lean ====
module

public import proofs.«01_k».proof.Proof.Gen.MixIdeal.Frame
public import proofs.«01_k».proof.Proof.Gen.MixRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixValue

open Cert.MixIdeal Cert.MixIdeal.Gen

variable (m : (ℓ : Loc nD τ sig) → Buf (Elt Ideal) ℓ)

/-! ## The operands the host prepares -/

/-- A pair of tables of 32 columns, each repeated over alternate halves of 64 lanes, twice over. -/
theorem tile4 (X Y : FVec Ideal S4096x32 .f32) (r : Fin 4096) (l : Fin 128) :
    shapeCast S4096x128 (broadcastInDim S1x4096x2x64 ![0, 1, 2, 3] bcast_S1x4096x1x64_S1x4096x2x64_0_1_2_3
      (shapeCast S1x4096x1x64 (concatenate S4096x64 1 [⟨S4096x32, X⟩, ⟨S4096x32, Y⟩] concatenates_S4096x32_S4096x32_S4096x64_d1)
        shapeCasts_S4096x64_S1x4096x1x64)) shapeCasts_S1x4096x2x64_S4096x128 (ix2 r l) =
    if l.val % 64 < 32 then X (ix2 r ⟨l.val % 32, by omega⟩) else Y (ix2 r ⟨l.val % 32, by omega⟩) := by
  pointwise
  have h64 : l.val % 64 < 64 := Nat.mod_lt _ (by decide)
  split
  · rename_i h
    congr 3
    omega
  · congr 3
    omega

/-- The cosine table, repeated for every half of every head of a pair. -/
theorem V_cos (c : Dev nD) (r : Fin 4096) (l : Fin 128) : (V m c main_v31 : FVec Ideal S4096x128 .f32) (ix2 r l) =
    Cert.MixRefIdeal.Read.val_main_v27 (F := Ideal) (ix2 r ⟨l.val % 32, by omega⟩) := by
  refine Eq.trans ?_ (Eq.trans (tile4 (Cert.MixRefIdeal.Read.val_main_v27 (F := Ideal)) (Cert.MixRefIdeal.Read.val_main_v27 (F := Ideal)) r l) ?_)
  · refine congrFun ?_ _
    entry_read
    rfl
  · simp

/-- The sine table, negated on the first half of each head. -/
theorem V_sin (c : Dev nD) (r : Fin 4096) (l : Fin 128) : (V m c main_v36 : FVec Ideal S4096x128 .f32) (ix2 r l) =
    if l.val % 64 < 32 then (- Cert.MixRefIdeal.Read.val_main_v28 (F := Ideal) (ix2 r ⟨l.val % 32, by omega⟩) : EReal)
    else Cert.MixRefIdeal.Read.val_main_v28 (F := Ideal) (ix2 r ⟨l.val % 32, by omega⟩) := by
  refine Eq.trans ?_ (Eq.trans (tile4 (Host.negf (Cert.MixRefIdeal.Read.val_main_v28 (F := Ideal)))
    (Cert.MixRefIdeal.Read.val_main_v28 (F := Ideal)) r l) ?_)
  · refine congrFun ?_ _
    entry_read
    rfl
  · pointwise

theorem V_w (c : Dev nD) : (V m c main_v143 : FVec Ideal S4x128x128 .bf16) = m ((c : Thread nD τ).loc main_arg5) := by
  entry_read
  rfl

/-- The gating unit's bias, by row and lane. -/
theorem V_bias (c : Dev nD) (r : Fin 128) (l : Fin 512) : (V m c main_v146 : FVec Ideal S128x512 .f32) (ix2 r l) =
    (m ((c : Thread nD τ).loc main_arg6) : FVec Ideal S4x128 .f32) (ix2 ⟨l.val / 128, by omega⟩ r) := by
  refine Eq.trans (b := shapeCast S128x512 (broadcastInDim S128x4x128 ![0, 1] bcast_S128x4_S128x4x128_0_1
    (transpose S128x4 [1, 0] (m ((c : Thread nD τ).loc main_arg6) : FVec Ideal S4x128 .f32) transposes_S4x128_S128x4_1_0))
    shapeCasts_S128x4x128_S128x512 (ix2 r l)) ?_ ?_
  · refine congrFun ?_ _
    entry_read
    rfl
  · pointwise

/-- The per-row decay factors of one direction, laid out for a pair of heads. -/
def rowDecay (tab : FVec Ideal S128 .f32) (g : FVec Ideal S4 .f32) : FVec Ideal S2x128x128 .f32 :=
  shapeCast S2x128x128 (broadcastInDim S2x128x2x64 ![0, 1, 2] bcast_S2x128x2_S2x128x2x64_0_1_2
    (transpose S2x128x2 [0, 2, 1] (shapeCast S2x2x128 (Host.exp (mulf
      (broadcastInDim S4x128 ![0, 1] bcast_S1x128_S4x128_0_1 (broadcastInDim S1x128 ![1] bcast_S128_S1x128_1 tab))
      (broadcastInDim S4x128 ![0, 1] bcast_S4x1_S4x128_0_1 (broadcastInDim S4x1 ![0] bcast_S4_S4x1_0 g))))
      shapeCasts_S4x128_S2x2x128) transposes_S2x2x128_S2x128x2_0_2_1)) shapeCasts_S2x128x2x64_S2x128x128

theorem rowDecay_apply (tab : FVec Ideal S128 .f32) (g : FVec Ideal S4 .f32) (p : Fin 2) (i d : Fin 128) :
    rowDecay tab g (ix3 p i d) = Ideal.exp (tab (ix1 i) * g (ix1 ⟨p.val * 2 + d.val / 64, by omega⟩)) := by
  pointwise [rowDecay]

theorem V_qdf (c : Dev nD) (p : Fin 2) (i d : Fin 128) : (V m c main_v110 : FVec Ideal S2x128x128 .f32) (ix3 p i d) =
    Ideal.exp (((FloatOps.sitofp FTy.f32 (BitVec.ofNat 32 i.val) : Ideal .f32) + 1 : EReal) *
      Cert.MixRefIdeal.Read.val_main_v29 (F := Ideal) (m ((c : Thread nD τ).loc main_arg3)) (ix1 ⟨p.val * 2 + d.val / 64, by omega⟩)) := by
  refine Eq.trans (b := rowDecay (addf (sitofp .f32 (iotaInDim S128 32 0)) (broadcastInDim S128 ![] bcast_S_S128 (constant S_ .f32 0x3F800000#32)))
    (Cert.MixRefIdeal.Read.val_main_v29 (F := Ideal) (m ((c : Thread nD τ).loc main_arg3))) (ix3 p i d)) ?_ ?_
  · refine congrFun ?_ _
    entry_read
    rfl
  · rw [rowDecay_apply]
    pointwise

theorem V_qdb (c : Dev nD) (p : Fin 2) (i d : Fin 128) : (V m c main_v122 : FVec Ideal S2x128x128 .f32) (ix3 p i d) =
    Ideal.exp ((Ideal.ofBits FTy.f32 0x43000000#32 - (FloatOps.sitofp FTy.f32 (BitVec.ofNat 32 i.val) : Ideal .f32) : EReal) *
      Cert.MixRefIdeal.Read.val_main_v30 (F := Ideal) (m ((c : Thread nD τ).loc main_arg4)) (ix1 ⟨p.val * 2 + d.val / 64, by omega⟩)) := by
  refine Eq.trans (b := rowDecay (subf (broadcastInDim S128 ![] bcast_S_S128 (constant S_ .f32 0x43000000#32)) (sitofp .f32 (iotaInDim S128 32 0)))
    (Cert.MixRefIdeal.Read.val_main_v30 (F := Ideal) (m ((c : Thread nD τ).loc main_arg4))) (ix3 p i d)) ?_ ?_
  · refine congrFun ?_ _
    entry_read
    rfl
  · rw [rowDecay_apply]
    pointwise

/-- The two directions' decays of a pair of rows of one chunk, scaled. -/
def pairDecay (diff : FVec Ideal S128x128 .f32) (g g' : FVec Ideal S4 .f32) : FVec Ideal S4x128x128 .f32 :=
  mulf (select (broadcastInDim S4x128x128 ![1, 2] bcast_S128x128_S4x128x128_1_2
      (cmpf .oge diff (broadcastInDim S128x128 ![] bcast_S_S128x128 (constant S_ .f32 0x00000000#32))))
    (Host.exp (mulf (broadcastInDim S4x128x128 ![0, 1, 2] bcast_S1x128x128_S4x128x128_0_1_2 (broadcastInDim S1x128x128 ![1, 2] bcast_S128x128_S1x128x128_1_2
        (maximumf diff (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 g))))
    (Host.exp (mulf (broadcastInDim S4x128x128 ![0, 1, 2] bcast_S1x128x128_S4x128x128_0_1_2 (broadcastInDim S1x128x128 ![1, 2] bcast_S128x128_S1x128x128_1_2
        (maximumf (Host.negf diff) (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 g')))))
    (broadcastInDim S4x128x128 ![] bcast_S_S4x128x128 (constant S_ .f32 0x3E000000#32))

theorem V_dm_eq (c : Dev nD) : (V m c main_v66 : FVec Ideal S4x128x128 .f32) = pairDecay
    (subf (broadcastInDim S128x128 ![0, 1] bcast_S128x1_S128x128_0_1 (broadcastInDim S128x1 ![0] bcast_S128_S128x1_0 (sitofp .f32 (iotaInDim S128 32 0))))
      (broadcastInDim S128x128 ![0, 1] bcast_S1x128_S128x128_0_1 (broadcastInDim S1x128 ![1] bcast_S128_S1x128_1 (sitofp .f32 (iotaInDim S128 32 0)))))
    (Cert.MixRefIdeal.Read.val_main_v29 (F := Ideal) (m ((c : Thread nD τ).loc main_arg3)))
    (Cert.MixRefIdeal.Read.val_main_v30 (F := Ideal) (m ((c : Thread nD τ).loc main_arg4))) := by
  entry_read
  rfl

/-- Row `i`'s distance ahead of row `j` in a chunk. -/
def gap (i j : Fin 128) : EReal :=
  (FloatOps.sitofp FTy.f32 (BitVec.ofNat 32 i.val) : Ideal .f32) - (FloatOps.sitofp FTy.f32 (BitVec.ofNat 32 j.val) : Ideal .f32)

theorem V_dm (c : Dev nD) (h : Fin 4) (i j : Fin 128) : (V m c main_v66 : FVec Ideal S4x128x128 .f32) (ix3 h i j) =
    ((if 0 ≤ gap i j then Ideal.exp (max (gap i j) 0 * Cert.MixRefIdeal.Read.val_main_v29 (F := Ideal) (m ((c : Thread nD τ).loc main_arg3)) (ix1 h))
      else Ideal.exp (max (- gap i j) 0 * Cert.MixRefIdeal.Read.val_main_v30 (F := Ideal) (m ((c : Thread nD τ).loc main_arg4)) (ix1 h))) *
      Ideal.ofBits FTy.f32 0x3E000000#32 : EReal) := by
  rw [V_dm_eq]
  pointwise [pairDecay, gap]

/-- The states of a pair of heads, side by side with zeros off the pair's own blocks. -/
def packed (s : FVec Ideal S8x32x4x64x128 .f32) : FVec Ideal S8x32x2x128x256 .bf16 :=
  truncf .bf16 (shapeCast S8x32x2x128x256 (mulf
    (broadcastInDim S8x32x2x2x64x2x128 ![0, 1, 2, 3, 4, 5, 6] bcast_S8x32x2x2x64x1x128_S8x32x2x2x64x2x128_0_1_2_3_4_5_6
      (shapeCast S8x32x2x2x64x1x128 s shapeCasts_S8x32x4x64x128_S8x32x2x2x64x1x128))
    (broadcastInDim S8x32x2x2x64x2x128 ![0, 1, 2, 3, 4, 5, 6] bcast_S1x1x1x2x1x2x1_S8x32x2x2x64x2x128_0_1_2_3_4_5_6
      (broadcastInDim S1x1x1x2x1x2x1 ![3, 4, 5, 6] bcast_S2x1x2x1_S1x1x1x2x1x2x1_3_4_5_6
        (broadcastInDim S2x1x2x1 ![0, 2] bcast_S2x2_S2x1x2x1_0_2 (uitofp .f32 (cmpi .eq
          (addi (iotaInDim S2x2 32 0) (broadcastInDim S2x2 ![] bcast_S_S2x2 (constantI S_ 32 0#32))) (iotaInDim S2x2 32 1)))))))
    shapeCasts_S8x32x2x2x64x2x128_S8x32x2x128x256) bitsLt_bf16_f32

theorem one_block (x : EReal) (a b : Nat) (ha : a < 2) (hb : b < 2) :
    x * (FloatOps.uitofp FTy.f32 (IntOp.cmpi CmpIPredicate.eq (IntOp.addi (BitVec.ofNat 32 a) 0#32) (BitVec.ofNat 32 b)) : Ideal .f32) =
    if a = b then x else 0 := by
  interval_cases a <;> interval_cases b <;> simp [FloatOps.uitofp, IntOp.cmpi, IntOp.addi]

theorem packed_apply (s : FVec Ideal S8x32x4x64x128 .f32) (b : Fin 8) (n : Fin 32) (p : Fin 2) (d : Fin 128) (l : Fin 256) :
    packed s (ix5 b n p d l) = if d.val / 64 = l.val / 128 then
      s (ix5 b n ⟨p.val * 2 + d.val / 64, by omega⟩ ⟨d.val % 64, by omega⟩ ⟨l.val % 128, by omega⟩) else (0 : EReal) := by
  pointwise [packed]
  exact one_block _ _ _ (by omega) (by omega)

theorem V_eye (c : Dev nD) : @Eq (FVec Ideal S2x2 .f32) (V m c main_v153) (uitofp .f32 (cmpi .eq
    (addi (iotaInDim S2x2 32 0) (broadcastInDim S2x2 ![] bcast_S_S2x2 (constantI S_ 32 0#32))) (iotaInDim S2x2 32 1))) := by
  entry_read
  rfl

theorem V_eye' (c : Dev nD) : @Eq (FVec Ideal S2x2 .f32) (V m c main_v167) (uitofp .f32 (cmpi .eq
    (addi (iotaInDim S2x2 32 0) (broadcastInDim S2x2 ![] bcast_S_S2x2 (constantI S_ 32 0#32))) (iotaInDim S2x2 32 1))) := by
  entry_read
  rfl

theorem V_states (c : Dev nD) : @Eq (FVec Ideal S8x32x2x2x64x1x128 .f32) (V m c main_v147)
    (shapeCast S8x32x2x2x64x1x128 (m ((c : Thread nD τ).loc main_arg1) : FVec Ideal S8x32x4x64x128 .f32) shapeCasts_S8x32x4x64x128_S8x32x2x2x64x1x128) := by
  entry_read
  rfl

theorem V_states' (c : Dev nD) : @Eq (FVec Ideal S8x32x2x2x64x1x128 .f32) (V m c main_v161)
    (shapeCast S8x32x2x2x64x1x128 (m ((c : Thread nD τ).loc main_arg2) : FVec Ideal S8x32x4x64x128 .f32) shapeCasts_S8x32x4x64x128_S8x32x2x2x64x1x128) := by
  entry_read
  rfl

theorem V_blocks (c : Dev nD) : @Eq (FVec Ideal S8x32x2x2x64x2x128 .f32) (V m c main_v158) (mulf
    (broadcastInDim S8x32x2x2x64x2x128 ![0, 1, 2, 3, 4, 5, 6] bcast_S8x32x2x2x64x1x128_S8x32x2x2x64x2x128_0_1_2_3_4_5_6
      (V m c main_v147 : FVec Ideal S8x32x2x2x64x1x128 .f32))
    (broadcastInDim S8x32x2x2x64x2x128 ![0, 1, 2, 3, 4, 5, 6] bcast_S1x1x1x2x1x2x1_S8x32x2x2x64x2x128_0_1_2_3_4_5_6
      (broadcastInDim S1x1x1x2x1x2x1 ![3, 4, 5, 6] bcast_S2x1x2x1_S1x1x1x2x1x2x1_3_4_5_6
        (broadcastInDim S2x1x2x1 ![0, 2] bcast_S2x2_S2x1x2x1_0_2 (V m c main_v153 : FVec Ideal S2x2 .f32))))) := by
  unfold V
  rfl

theorem V_blocks' (c : Dev nD) : @Eq (FVec Ideal S8x32x2x2x64x2x128 .f32) (V m c main_v172) (mulf
    (broadcastInDim S8x32x2x2x64x2x128 ![0, 1, 2, 3, 4, 5, 6] bcast_S8x32x2x2x64x1x128_S8x32x2x2x64x2x128_0_1_2_3_4_5_6
      (V m c main_v161 : FVec Ideal S8x32x2x2x64x1x128 .f32))
    (broadcastInDim S8x32x2x2x64x2x128 ![0, 1, 2, 3, 4, 5, 6] bcast_S1x1x1x2x1x2x1_S8x32x2x2x64x2x128_0_1_2_3_4_5_6
      (broadcastInDim S1x1x1x2x1x2x1 ![3, 4, 5, 6] bcast_S2x1x2x1_S1x1x1x2x1x2x1_3_4_5_6
        (broadcastInDim S2x1x2x1 ![0, 2] bcast_S2x2_S2x1x2x1_0_2 (V m c main_v167 : FVec Ideal S2x2 .f32))))) := by
  unfold V
  rfl

theorem V_sf (c : Dev nD) : @Eq (FVec Ideal S8x32x2x128x256 .bf16) (V m c main_v160) (packed (m ((c : Thread nD τ).loc main_arg1))) := by
  have h : @Eq (FVec Ideal S8x32x2x128x256 .bf16) (V m c main_v160)
      (truncf .bf16 (shapeCast S8x32x2x128x256 (V m c main_v158 : FVec Ideal S8x32x2x2x64x2x128 .f32)
        shapeCasts_S8x32x2x2x64x2x128_S8x32x2x128x256) bitsLt_bf16_f32) := by
    unfold V
    rfl
  rw [h, V_blocks, V_states, V_eye, packed]

theorem V_sb (c : Dev nD) : @Eq (FVec Ideal S8x32x2x128x256 .bf16) (V m c main_v174) (packed (m ((c : Thread nD τ).loc main_arg2))) := by
  have h : @Eq (FVec Ideal S8x32x2x128x256 .bf16) (V m c main_v174)
      (truncf .bf16 (shapeCast S8x32x2x128x256 (V m c main_v172 : FVec Ideal S8x32x2x2x64x2x128 .f32)
        shapeCasts_S8x32x2x2x64x2x128_S8x32x2x128x256) bitsLt_bf16_f32) := by
    unfold V
    rfl
  rw [h, V_blocks', V_states', V_eye', packed]

end Cert.MixValue
-- ==== Proof.MixRead.lean ====
module

public import proofs.«01_k».proof.Proof.Gen.MixIdeal.Frame
public import proofs.«01_k».proof.Proof.Gen.MixRefIdeal.Read
public import proofs.«01_k».proof.Proof.MixHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixValue

open Cert.MixIdeal Cert.MixIdeal.Gen

variable (m : (ℓ : Loc nD τ sig) → Buf (Elt Ideal) ℓ)

/-! ## The blocks a grid point reads -/

/-- The block every window reads or writes at grid point `t`: batch `t / 4`, row tile `t % 4`. -/
theorem idx : ∀ t : Fin cfg0.N, win0_0.index t = ![t.val / 4, t.val % 4, 0] ∧ win0_1.index t = ![t.val / 4, t.val % 4, 1]
    ∧ win0_2.index t = ![t.val / 4, t.val % 4, 1] ∧ win0_3.index t = ![t.val / 4, t.val % 4, 2]
    ∧ win0_4.index t = ![t.val / 4, t.val % 4, 3] ∧ win0_5.index t = ![t.val / 4, t.val % 4, 4]
    ∧ win0_6.index t = ![t.val % 4, 0] ∧ win0_7.index t = ![t.val % 4, 0]
    ∧ win0_8.index t = ![t.val / 4, t.val % 4, 0, 0, 0] ∧ win0_9.index t = ![t.val / 4, t.val % 4, 0, 0, 0]
    ∧ win0_10.index t = ![0, 0, 0] ∧ win0_11.index t = ![0, 0, 0] ∧ win0_12.index t = ![0, 0, 0]
    ∧ win0_13.index t = ![0, 0, 0] ∧ win0_14.index t = ![0, 0]
    ∧ win0_15.index t = ![t.val / 4, t.val % 4, 0] ∧ win0_16.index t = ![t.val / 4, t.val % 4, 0] :=
  (by decide +kernel : ∀ t : Fin grid0.N, _)

theorem points : cfg0.N = 32 := by decide +kernel

theorem lt_points (t : Fin cfg0.N) : t.val < 32 := lt_of_lt_of_eq t.isLt points

/-- The batch entry of grid point `t`. -/
abbrev batch (t : Fin cfg0.N) : Fin 8 := ⟨t.val / 4, by have := lt_points t; omega⟩

/-- Row `r` of grid point `t`'s tile, in the whole sequence. -/
abbrev row (t : Fin cfg0.N) (r : Fin 1024) : Fin 4096 := ⟨1024 * (t.val % 4) + r.val, by omega⟩

/-- Chunk `n` of grid point `t`'s tile, in the whole sequence. -/
abbrev chunk (t : Fin cfg0.N) (n : Fin 8) : Fin 32 := ⟨8 * (t.val % 4) + n.val, by omega⟩

/-- The packed input array. -/
abbrev zin (c : Dev nD) : FVec Ideal S8x4096x6400 .bf16 := m ((c : Thread nD τ).loc main_arg0)

theorem block0 (c : Dev nD) (t : Fin cfg0.N) (r : Fin 1024) (l : Fin 256) :
    (iblk m c 0 t : FVec Ideal S1x1024x256 .bf16) (ix3 0 r l) = zin m c (ix3 (batch t) (row t r) ⟨l.val, by omega⟩) := by
  blk_ext [iblk, V_main_arg0, idx t]

theorem block1 (c : Dev nD) (t : Fin cfg0.N) (r : Fin 1024) (l : Fin 256) :
    (iblk m c 1 t : FVec Ideal S1x1024x256 .bf16) (ix3 0 r l) = zin m c (ix3 (batch t) (row t r) ⟨256 + l.val, by omega⟩) := by
  blk_ext [iblk, V_main_arg0, idx t]

theorem block2 (c : Dev nD) (t : Fin cfg0.N) (r : Fin 1024) (l : Fin 512) :
    (X0_2 m c t : FVec Ideal S1x1024x512 .bf16) (ix3 0 r l) = zin m c (ix3 (batch t) (row t r) ⟨512 + l.val, by omega⟩) := by
  unfold X0_2 Pipeline.Window.fill
  rw [dif_pos (moved0_2 t _)]
  blk_ext [iblk, V_main_arg0, idx t]

theorem block3 (c : Dev nD) (t : Fin cfg0.N) (r : Fin 1024) (l : Fin 512) :
    (X0_3 m c t : FVec Ideal S1x1024x512 .bf16) (ix3 0 r l) = zin m c (ix3 (batch t) (row t r) ⟨1024 + l.val, by omega⟩) := by
  unfold X0_3 Pipeline.Window.fill
  rw [dif_pos (moved0_3 t _)]
  blk_ext [iblk, V_main_arg0, idx t]

theorem block4 (c : Dev nD) (t : Fin cfg0.N) (r : Fin 1024) (l : Fin 512) :
    (X0_4 m c t : FVec Ideal S1x1024x512 .bf16) (ix3 0 r l) = zin m c (ix3 (batch t) (row t r) ⟨1536 + l.val, by omega⟩) := by
  unfold X0_4 Pipeline.Window.fill
  rw [dif_pos (moved0_4 t _)]
  blk_ext [iblk, V_main_arg0, idx t]

theorem block5 (c : Dev nD) (t : Fin cfg0.N) (r : Fin 1024) (l : Fin 512) :
    (X0_5 m c t : FVec Ideal S1x1024x512 .bf16) (ix3 0 r l) = zin m c (ix3 (batch t) (row t r) ⟨2048 + l.val, by omega⟩) := by
  unfold X0_5 Pipeline.Window.fill
  rw [dif_pos (moved0_5 t _)]
  blk_ext [iblk, V_main_arg0, idx t]

theorem block6 (c : Dev nD) (t : Fin cfg0.N) (r : Fin 1024) (l : Fin 128) :
    (iblk m c 6 t : FVec Ideal S1024x128 .f32) (ix2 r l) = (V m c main_v31 : FVec Ideal S4096x128 .f32) (ix2 (row t r) l) :=
  congrArg (V m c main_v31 : FVec Ideal S4096x128 .f32) (show ((cfg0.win 6).blk t).view.emb (ix2 r l) = ix2 (row t r) l by blk_ext [idx t])

theorem block7 (c : Dev nD) (t : Fin cfg0.N) (r : Fin 1024) (l : Fin 128) :
    (iblk m c 7 t : FVec Ideal S1024x128 .f32) (ix2 r l) = (V m c main_v36 : FVec Ideal S4096x128 .f32) (ix2 (row t r) l) :=
  congrArg (V m c main_v36 : FVec Ideal S4096x128 .f32) (show ((cfg0.win 7).blk t).view.emb (ix2 r l) = ix2 (row t r) l by blk_ext [idx t])

theorem emb8 (t : Fin cfg0.N) (n : Fin 8) (p : Fin 2) (d : Fin 128) (l : Fin 256) :
    ((cfg0.win 8).blk t).view.emb (ix5 0 n p d l) = (ix5 (batch t) (chunk t n) p d l : S8x32x2x128x256.Idx) := by
  blk_ext [idx t]

theorem emb9 (t : Fin cfg0.N) (n : Fin 8) (p : Fin 2) (d : Fin 128) (l : Fin 256) :
    ((cfg0.win 9).blk t).view.emb (ix5 0 n p d l) = (ix5 (batch t) (chunk t n) p d l : S8x32x2x128x256.Idx) := by
  blk_ext [idx t]

theorem block8 (c : Dev nD) (t : Fin cfg0.N) (n : Fin 8) (p : Fin 2) (d : Fin 128) (l : Fin 256) :
    (iblk m c 8 t : FVec Ideal S1x8x2x128x256 .bf16) (ix5 0 n p d l) =
      (V m c main_v160 : FVec Ideal S8x32x2x128x256 .bf16) (ix5 (batch t) (chunk t n) p d l) :=
  congrArg (V m c main_v160 : FVec Ideal S8x32x2x128x256 .bf16) (emb8 t n p d l)

theorem block9 (c : Dev nD) (t : Fin cfg0.N) (n : Fin 8) (p : Fin 2) (d : Fin 128) (l : Fin 256) :
    (iblk m c 9 t : FVec Ideal S1x8x2x128x256 .bf16) (ix5 0 n p d l) =
      (V m c main_v174 : FVec Ideal S8x32x2x128x256 .bf16) (ix5 (batch t) (chunk t n) p d l) :=
  congrArg (V m c main_v174 : FVec Ideal S8x32x2x128x256 .bf16) (emb9 t n p d l)

theorem emb10 (t : Fin cfg0.N) (j : S4x128x128.Idx) : ((cfg0.win 10).blk t).view.emb j = (j : S4x128x128.Idx) := by
  blk_ext [idx t]

theorem emb11 (t : Fin cfg0.N) (j : S2x128x128.Idx) : ((cfg0.win 11).blk t).view.emb j = (j : S2x128x128.Idx) := by
  blk_ext [idx t]

theorem emb12 (t : Fin cfg0.N) (j : S2x128x128.Idx) : ((cfg0.win 12).blk t).view.emb j = (j : S2x128x128.Idx) := by
  blk_ext [idx t]

theorem emb13 (t : Fin cfg0.N) (j : S4x128x128.Idx) : ((cfg0.win 13).blk t).view.emb j = (j : S4x128x128.Idx) := by
  blk_ext [idx t]

theorem block10 (c : Dev nD) (t : Fin cfg0.N) (j : S4x128x128.Idx) :
    (iblk m c 10 t : FVec Ideal S4x128x128 .f32) j = (V m c main_v66 : FVec Ideal S4x128x128 .f32) j :=
  congrArg (V m c main_v66 : FVec Ideal S4x128x128 .f32) (emb10 t j)

theorem block11 (c : Dev nD) (t : Fin cfg0.N) (j : S2x128x128.Idx) :
    (iblk m c 11 t : FVec Ideal S2x128x128 .f32) j = (V m c main_v110 : FVec Ideal S2x128x128 .f32) j :=
  congrArg (V m c main_v110 : FVec Ideal S2x128x128 .f32) (emb11 t j)

theorem block12 (c : Dev nD) (t : Fin cfg0.N) (j : S2x128x128.Idx) :
    (iblk m c 12 t : FVec Ideal S2x128x128 .f32) j = (V m c main_v122 : FVec Ideal S2x128x128 .f32) j :=
  congrArg (V m c main_v122 : FVec Ideal S2x128x128 .f32) (emb12 t j)

theorem block13 (c : Dev nD) (t : Fin cfg0.N) (j : S4x128x128.Idx) :
    (iblk m c 13 t : FVec Ideal S4x128x128 .bf16) j = (m ((c : Thread nD τ).loc main_arg5) : FVec Ideal S4x128x128 .f32) j :=
  (congrArg (V m c main_v143 : FVec Ideal S4x128x128 .bf16) (emb13 t j)).trans
    (congrFun (V_w m c) j)

theorem block14 (c : Dev nD) (t : Fin cfg0.N) (r : Fin 128) (l : Fin 512) :
    (iblk m c 14 t : FVec Ideal S128x512 .f32) (ix2 r l) =
      (m ((c : Thread nD τ).loc main_arg6) : FVec Ideal S4x128 .f32) (ix2 ⟨l.val / 128, by omega⟩ r) :=
  (congrArg (V m c main_v146 : FVec Ideal S128x512 .f32) (show ((cfg0.win 14).blk t).view.emb (ix2 r l) = ix2 r l by blk_ext [idx t])).trans
    (V_bias m c r l)

end Cert.MixValue
-- ==== Proof.MixRef.lean ====
module

public import proofs.«01_k».proof.Proof.MixHost
public import proofs.«01_k».proof.Proof.Gen.MixRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixRefValue

open Cert.MixRefIdeal Cert.MixRefIdeal.Read

variable (x0 : FVec Ideal S8x4096x6400 .bf16) (x1 x2 : FVec Ideal S8x32x4x64x128 .f32) (x3 x4 : FVec Ideal S4 .f32)
variable (x5 : FVec Ideal S4x128x128 .f32) (x6 : FVec Ideal S4x128 .f32)

/-! ## The reference's retention, read step by step -/

/-- The scores of two rows of one head, keys already scaled. -/
def score (b : Fin 8) (h : Fin 4) (r r' : Fin 4096) : EReal :=
  ∑ d : Fin 64, val_main_v51 (F := Ideal) x0 (ix4 b r h d) * val_main_v74 (F := Ideal) x0 (ix4 b r' h d)

theorem fwd (b : Fin 8) (n : Fin 32) (i : Fin 128) (h : Fin 4) (e : Fin 128) :
    val_main_v116 (F := Ideal) x0 x1 x3 (ix5 b n i h e) =
    ∑ j : Fin 128, x0 (ix3 b ⟨n.val * 128 + j.val, by omega⟩ ⟨512 + (h.val * 128 + e.val), by omega⟩) *
      (score x0 b h ⟨n.val * 128 + i.val, by omega⟩ ⟨n.val * 128 + j.val, by omega⟩ * val_main_v96 (F := Ideal) x3 (ix3 h i j)) +
    ∑ d : Fin 64, x1 (ix5 b n h d e) *
      (val_main_v51 (F := Ideal) x0 (ix4 b ⟨n.val * 128 + i.val, by omega⟩ h d) * val_main_v110 (F := Ideal) x3 (ix2 i h)) := by
  pointwise [val_main_v116, val_main_v102, val_main_v101, val_main_v79, val_main_v76, val_main_v75, val_main_v0, val_main_v100,
    val_main_v97, val_main_v77, val_main_v78, val_main_v99, val_main_v98, val_main_v115, val_main_v114, val_main_v113,
    val_main_v112, val_main_v111, score]

theorem bwd (b : Fin 8) (n : Fin 32) (i : Fin 128) (h : Fin 4) (e : Fin 128) :
    val_main_v161 (F := Ideal) x0 x2 x4 (ix5 b n i h e) =
    ∑ j : Fin 128, x0 (ix3 b (Fin.rev ⟨n.val * 128 + j.val, by omega⟩) ⟨512 + (h.val * 128 + e.val), by omega⟩) *
      (score x0 b h (Fin.rev ⟨n.val * 128 + i.val, by omega⟩) (Fin.rev ⟨n.val * 128 + j.val, by omega⟩) *
        val_main_v141 (F := Ideal) x4 (ix3 h i j)) +
    ∑ d : Fin 64, x2 (ix5 b n.rev h d e) *
      (val_main_v51 (F := Ideal) x0 (ix4 b (Fin.rev ⟨n.val * 128 + i.val, by omega⟩) h d) * val_main_v155 (F := Ideal) x4 (ix2 i h)) := by
  pointwise [val_main_v161, val_main_v147, val_main_v146, val_main_v124, val_main_v120, val_main_v76, val_main_v75, val_main_v0,
    val_main_v145, val_main_v142, val_main_v122, val_main_v123, val_main_v118, val_main_v119, val_main_v144, val_main_v143,
    val_main_v160, val_main_v159, val_main_v158, val_main_v157, val_main_v156, val_main_v121, score]
  rfl

end Cert.MixRefValue
-- ==== Proof.MixSum.lean ====
module

public import Idealize.ShloMosaic.Lib.Pipeline.ValueKit
public import Idealize.ShloMosaic.Lib.Pointwise

@[expose] public section

noncomputable section

open Idealize.ShloMosaic

namespace Cert.MixSum

/-- A finite nonnegative factor comes out of a sum. -/
theorem sum_mul_const {n : ℕ} (f : Fin n → EReal) (k : EReal) (h0 : 0 ≤ k) (ht : k ≠ ⊤) :
    ∑ d, f d * k = (∑ d, f d) * k := by
  induction n with
  | zero => simp
  | succ n ih =>
    rw [Fin.sum_univ_castSucc, Fin.sum_univ_castSucc, ih, EReal.right_distrib_of_nonneg_of_ne_top h0 ht]

/-- A sum over 128 lanes in which only one half's lanes count is the sum over that half. -/
theorem sum_half (a : ℕ) (ha : a < 2) (f : Fin 128 → EReal) :
    ∑ d : Fin 128, (if d.val / 64 = a then f d else 0) = ∑ d : Fin 64, f ⟨64 * a + d.val, by omega⟩ := by
  refine (Fin.sum_univ_add (fun d : Fin (64 + 64) => if d.val / 64 = a then f d else 0)).trans ?_
  interval_cases a
  · refine (congrArg₂ (· + ·) (Finset.sum_congr rfl (g := fun d : Fin 64 => f ⟨64 * 0 + d.val, by omega⟩) ?_)
      (Finset.sum_eq_zero ?_)).trans (add_zero _)
    · intro d _
      rw [if_pos (by rw [Fin.val_castAdd]; omega)]
      congr 1
      ext
      simp
    · intro d _
      rw [if_neg (by rw [Fin.val_natAdd]; omega)]
  · refine (congrArg₂ (· + ·) (Finset.sum_eq_zero ?_)
      (Finset.sum_congr rfl (g := fun d : Fin 64 => f ⟨64 * 1 + d.val, by omega⟩) ?_)).trans (zero_add _)
    · intro d _
      rw [if_neg (by rw [Fin.val_castAdd]; omega)]
    · intro d _
      rw [if_pos (by rw [Fin.val_natAdd]; omega)]
      congr 1

/-- Counting a chunk's rows from its end turns a distance round. -/
theorem rev_gap (i j : Fin 128) : (((i.rev.val : ℝ) : EReal) - ((j.rev.val : ℝ) : EReal)) = ((j.val : ℝ) : EReal) - ((i.val : ℝ) : EReal) := by
  have hi : (i.rev.val : ℝ) = 127 - i.val := by
    rw [Fin.val_rev, Nat.cast_sub (by omega)]
    push_cast
    ring
  have hj : (j.rev.val : ℝ) = 127 - j.val := by
    rw [Fin.val_rev, Nat.cast_sub (by omega)]
    push_cast
    ring
  rw [hi, hj, ← EReal.coe_sub, ← EReal.coe_sub]
  congr 1
  ring

/-- One pair of rows: the two directions' masked decays add up to the one decay of the pair. -/
theorem pair_term (v s k lf lb : EReal) (i j : Fin 128) (g g' : EReal) (hg : g = ((i.val : ℝ) : EReal) - ((j.val : ℝ) : EReal))
    (hg' : g' = ((j.val : ℝ) : EReal) - ((i.val : ℝ) : EReal)) :
    v * (s * k * (if 0 ≤ g then Ideal.exp ((if 0 ≤ g then g else 0) * lf) else 0))
      + v * (s * k * (if 0 < g' then Ideal.exp ((if 0 < g' then g' else 0) * lb) else 0))
    = s * ((if 0 ≤ g then Ideal.exp (max g 0 * lf) else Ideal.exp (max (-g) 0 * lb)) * k) * v := by
  have hn : -g = g' := by
    rw [hg, hg', ← EReal.coe_sub, ← EReal.coe_sub, ← EReal.coe_neg]
    congr 1
    ring
  rw [hn]
  by_cases h : j.val ≤ i.val
  · have h1 : 0 ≤ g := by
      rw [hg, ← EReal.coe_sub]
      exact EReal.coe_nonneg.mpr (sub_nonneg.mpr (Nat.cast_le.mpr h))
    have h2 : ¬ 0 < g' := by
      rw [← hn]
      intro hh
      have : g < 0 := by
        have := EReal.neg_lt_neg_iff.mpr hh
        simpa using this
      exact absurd h1 (not_le.mpr this)
    rw [if_pos h1, if_neg h2, if_pos h1, if_pos h1, max_eq_left h1, mul_zero, mul_zero, add_zero]
    rw [mul_comm v, mul_assoc s k, mul_comm k]
  · have h2 : 0 < g' := by
      rw [hg', ← EReal.coe_sub]
      exact EReal.coe_pos.mpr (sub_pos.mpr (Nat.cast_lt.mpr (not_le.mp h)))
    have h1 : ¬ 0 ≤ g := by
      intro hh
      rw [← hn] at h2
      have : g < 0 := by
        have := EReal.neg_lt_neg_iff.mpr h2
        simpa using this
      exact absurd hh (not_le.mpr this)
    rw [if_neg h1, if_pos h2, if_neg h1, if_pos h2, max_eq_left h2.le, mul_zero, mul_zero, zero_add]
    rw [mul_comm v, mul_assoc s k, mul_comm k]

/-- A row's number, as the integer count converted to a real. -/
theorem counter (i : Fin 128) : (FloatOps.sitofp FTy.f32 (BitVec.ofNat 32 i.val) : Ideal .f32) = ((i.val : ℝ) : EReal) := by
  have h : (BitVec.ofNat 32 i.val).toInt = (i.val : ℤ) := (by decide : ∀ i : Fin 128, (BitVec.ofNat 32 i.val).toInt = (i.val : ℤ)) i
  simp only [FloatOps.sitofp, h]
  simp

theorem bits_128 : Ideal.ofBits FTy.f32 0x43000000#32 = ((128 : ℝ) : EReal) := by
  simp [Ideal.ofBits, Ideal.ieee]
  rw [← EReal.coe_mul]
  norm_num

theorem bits_eighth : Ideal.ofBits FTy.f32 0x3E000000#32 = ((1/8 : ℝ) : EReal) := by
  simp [Ideal.ofBits, Ideal.ieee]
  rw [← EReal.coe_mul]
  norm_num

/-- The backward direction's row count. -/
theorem rev_count (i : Fin 128) :
    ((FloatOps.sitofp FTy.f32 (BitVec.ofNat 32 i.rev.val) : Ideal .f32) + 1 : EReal) =
      Ideal.ofBits FTy.f32 0x43000000#32 - (FloatOps.sitofp FTy.f32 (BitVec.ofNat 32 i.val) : Ideal .f32) := by
  have hi : (i.rev.val : ℝ) = 127 - i.val := by
    rw [Fin.val_rev, Nat.cast_sub (by omega)]
    push_cast
    ring
  rw [counter, counter, bits_128, hi, ← EReal.coe_sub, ← EReal.coe_one, ← EReal.coe_add]
  congr 1
  ring

end Cert.MixSum
-- ==== Proof.MixRefRead.lean ====
module

public import proofs.«01_k».proof.Proof.MixBlock
public import proofs.«01_k».proof.Proof.MixRef
public import proofs.«01_k».proof.Proof.MixSum
public import proofs.«01_k».proof.Proof.Gen.MixRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixRefValue

open Cert.MixRefIdeal Cert.MixRefIdeal.Read

variable (x0 : FVec Ideal S8x4096x6400 .bf16) (x1 x2 : FVec Ideal S8x32x4x64x128 .f32) (x3 x4 : FVec Ideal S4 .f32)
variable (x5 : FVec Ideal S4x128x128 .f32) (x6 : FVec Ideal S4x128 .f32)

open Cert.MixValue (gap normed lessMean gelu)

theorem decay_fwd (h : Fin 4) (i j : Fin 128) : val_main_v96 (F := Ideal) x3 (ix3 h i j) =
    (if 0 ≤ gap i j then Ideal.exp ((if 0 ≤ gap i j then gap i j else 0) * val_main_v29 (F := Ideal) x3 (ix1 h)) else 0 : EReal) := by
  pointwise [val_main_v96, val_main_call3_v1, val_main_call3_v2, val_main_call3_v0, val_main_v88, val_main_v87, val_main_v85, val_main_v83, val_main_v84,
    val_main_v81, val_main_v82, val_main_v80, val_main_v86, val_main_cst_2, val_main_v95, val_main_v94, val_main_v92, val_main_v93,
    val_main_v90, val_main_v89, val_main_v91, val_main_call2_v1, val_main_call2_v0, val_main_cst_3, val_main_cst_4, gap]
  simp [constant, Ideal.ofBits, Ideal.ieee]

theorem decay_bwd (h : Fin 4) (i j : Fin 128) : val_main_v141 (F := Ideal) x4 (ix3 h i j) =
    (if 0 < gap i j then Ideal.exp ((if 0 < gap i j then gap i j else 0) * val_main_v30 (F := Ideal) x4 (ix1 h)) else 0 : EReal) := by
  pointwise [val_main_v141, val_main_call5_v1, val_main_call5_v2, val_main_call5_v0, val_main_v133, val_main_v132, val_main_v130, val_main_v128, val_main_v129, val_main_v126, val_main_v127, val_main_v125, val_main_v131, val_main_cst_6, val_main_v140, val_main_v139, val_main_v137, val_main_v138, val_main_v135, val_main_v134, val_main_v136, val_main_call4_v1, val_main_call4_v0, val_main_cst_7, val_main_cst_8, gap]
  simp [constant, Ideal.ofBits, Ideal.ieee]

theorem qdec_fwd (h : Fin 4) (i : Fin 128) : val_main_v110 (F := Ideal) x3 (ix2 i h) =
    Ideal.exp (((FloatOps.sitofp FTy.f32 (BitVec.ofNat 32 i.val) : Ideal .f32) + 1 : EReal) * val_main_v29 (F := Ideal) x3 (ix1 h)) := by
  pointwise [val_main_v110, val_main_v109, val_main_v107, val_main_v108, val_main_v105, val_main_v106, val_main_v104, val_main_v103, val_main_v80, val_main_cst_5]

theorem qdec_bwd (h : Fin 4) (i : Fin 128) : val_main_v155 (F := Ideal) x4 (ix2 i h) =
    Ideal.exp (((FloatOps.sitofp FTy.f32 (BitVec.ofNat 32 i.val) : Ideal .f32) + 1 : EReal) * val_main_v30 (F := Ideal) x4 (ix1 h)) := by
  pointwise [val_main_v155, val_main_v154, val_main_v152, val_main_v153, val_main_v150, val_main_v151, val_main_v149, val_main_v148, val_main_v125, val_main_cst_9]

/-- One head's row after the rotation, from the columns `c₀ + 64 h …` of the packed array. -/
def turned (c₀ : Nat) (hc : c₀ ≤ 256) (b : Fin 8) (t : Fin 4096) (h : Fin 4) (d : Fin 64) : EReal :=
  if d.val < 32 then
    x0 (ix3 b t ⟨c₀ + h.val * 64 + d.val, by omega⟩) * val_main_v27 (F := Ideal) (ix2 t ⟨d.val % 32, by omega⟩) -
      x0 (ix3 b t ⟨c₀ + h.val * 64 + (d.val + 32) % 64, by omega⟩) * val_main_v28 (F := Ideal) (ix2 t ⟨d.val % 32, by omega⟩)
  else
    x0 (ix3 b t ⟨c₀ + h.val * 64 + (d.val + 32) % 64, by omega⟩) * val_main_v28 (F := Ideal) (ix2 t ⟨d.val % 32, by omega⟩) +
      x0 (ix3 b t ⟨c₀ + h.val * 64 + d.val, by omega⟩) * val_main_v27 (F := Ideal) (ix2 t ⟨d.val % 32, by omega⟩)

theorem query (b : Fin 8) (t : Fin 4096) (h : Fin 4) (d : Fin 64) :
    val_main_v51 (F := Ideal) x0 (ix4 b t h d) = turned x0 0 (by omega) b t h d := by
  pointwise [val_main_v51, val_main_v43, val_main_v50, val_main_v39, val_main_v42, val_main_v46, val_main_v49, val_main_v35,
    val_main_v36, val_main_v38, val_main_v41, val_main_v45, val_main_v48, val_main_v37, val_main_v40, val_main_v44, val_main_v47,
    val_main_v33, val_main_v34, val_main_v32, val_main_v31, val_main_v0]
  unfold turned
  by_cases hd : d.val < 32
  · rw [dif_pos hd, if_pos hd]
    congr 4 <;> (ext; dsimp only; omega)
  · rw [dif_neg hd, if_neg hd]
    congr 4 <;> (ext; dsimp only; omega)

theorem key (b : Fin 8) (t : Fin 4096) (h : Fin 4) (d : Fin 64) :
    val_main_v74 (F := Ideal) x0 (ix4 b t h d) = turned x0 256 (by omega) b t h d * Ideal.ofBits .f32 0x3E000000#32 := by
  pointwise [val_main_v74, val_main_v73, val_main_cst_1, val_main_v72, val_main_v64, val_main_v71, val_main_v60, val_main_v63, val_main_v67, val_main_v70, val_main_v56,
    val_main_v57, val_main_v59, val_main_v62, val_main_v66, val_main_v69, val_main_v58, val_main_v61, val_main_v65, val_main_v68,
    val_main_v54, val_main_v55, val_main_v53, val_main_v52, val_main_v0]
  unfold turned
  congr 1
  by_cases hd : d.val < 32
  · rw [dif_pos hd, if_pos hd]
    congr 4 <;> (ext; dsimp only; omega)
  · rw [dif_neg hd, if_neg hd]
    congr 4 <;> (ext; dsimp only; omega)

/-- The retention's output as the reference states it, read at an index. -/
theorem ret_read (b : Fin 8) (t : Fin 4096) (l : Fin 512) :
    val_main_v239 (F := Ideal) x0 x1 x2 x3 x4 (ix3 b t l) =
    normed (fun e => val_main_v164 (F := Ideal) x0 x1 x2 x3 x4 (ix4 b t ⟨l.val / 128, by omega⟩ e)) ⟨l.val % 128, by omega⟩ *
      (x0 (ix3 b t ⟨1024 + l.val, by omega⟩) * Ideal.logistic (x0 (ix3 b t ⟨1024 + l.val, by omega⟩))) := by
  pointwise [val_main_v239, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_cst_10, val_main_cst_11, val_main_cst_12, val_main_cst_13, val_main_cst_14, val_main_v0, val_main_call6_v0, val_main_call6_v1, val_main_call6_v2, val_main_call6_v3, val_main_call6_v4, val_main_call6_v5, val_main_call6_cst, val_main_call6_cst_0]
  rfl
theorem branch (b : Fin 8) (t : Fin 4096) (l : Fin 512) :
    val_main_v199 (F := Ideal) x0 (ix3 b t l) = gelu (x0 (ix3 b t ⟨1536 + l.val, by omega⟩)) := by
  pointwise [val_main_v185, val_main_v187, val_main_v188, val_main_cst_15, val_main_v189, val_main_v190, val_main_v191, val_main_cst_16, val_main_v192, val_main_v193, val_main_v194, val_main_cst_17, val_main_v195, val_main_v196, val_main_cst_18, val_main_v197, val_main_v198, val_main_v199, val_main_v0, gelu]
  rw [mul_comm (x0 (ix3 b t ⟨1536 + l.val, by omega⟩) * x0 (ix3 b t ⟨1536 + l.val, by omega⟩))]
theorem gate (b : Fin 8) (t : Fin 4096) (l : Fin 512) :
    val_main_v212 (F := Ideal) x0 (ix3 b t l) = gelu (x0 (ix3 b t ⟨2048 + l.val, by omega⟩)) := by
  pointwise [val_main_v186, val_main_v200, val_main_v201, val_main_cst_19, val_main_v202, val_main_v203, val_main_v204, val_main_cst_20, val_main_v205, val_main_v206, val_main_v207, val_main_cst_21, val_main_v208, val_main_v209, val_main_cst_22, val_main_v210, val_main_v211, val_main_v212, val_main_v0, gelu]
  rw [mul_comm (x0 (ix3 b t ⟨2048 + l.val, by omega⟩) * x0 (ix3 b t ⟨2048 + l.val, by omega⟩))]

/-- The layer norm of a row of the gate branch, as the reference states it. -/
def gateNorm (b : Fin 8) (t : Fin 4096) (l : Fin 512) : EReal :=
  (gelu (x0 (ix3 b t ⟨2048 + l.val, by omega⟩)) - Ideal.div (∑ l' : Fin 512, gelu (x0 (ix3 b t ⟨2048 + l'.val, by omega⟩))) (Ideal.ofBits .f32 0x44000000#32))
    * Ideal.rsqrt (Ideal.div (∑ l' : Fin 512,
        (gelu (x0 (ix3 b t ⟨2048 + l'.val, by omega⟩)) - Ideal.div (∑ k : Fin 512, gelu (x0 (ix3 b t ⟨2048 + k.val, by omega⟩))) (Ideal.ofBits .f32 0x44000000#32))
        * (gelu (x0 (ix3 b t ⟨2048 + l'.val, by omega⟩)) - Ideal.div (∑ k : Fin 512, gelu (x0 (ix3 b t ⟨2048 + k.val, by omega⟩))) (Ideal.ofBits .f32 0x44000000#32)))
        (Ideal.ofBits .f32 0x44000000#32) + Ideal.ofBits .f32 0x358637BD#32)

/-- The gating unit as the reference states it, read at an index. -/
theorem sgu_read (b : Fin 8) (t : Fin 4096) (l : Fin 512) : val_main_v240 (F := Ideal) x0 x5 x6 (ix3 b t l) =
    gelu (x0 (ix3 b t ⟨1536 + l.val, by omega⟩)) *
      (∑ j : Fin 128, gateNorm x0 b ⟨t.val / 128 * 128 + j.val, by omega⟩ l * x5 (ix3 ⟨l.val / 128, by omega⟩ ⟨t.val % 128, by omega⟩ j)
        + x6 (ix2 ⟨l.val / 128, by omega⟩ ⟨t.val % 128, by omega⟩)) := by
  pointwise [val_main_cst_23, val_main_v213, val_main_v214, val_main_cst_24, val_main_v215, val_main_v216, val_main_v217,
    val_main_v218, val_main_v219, val_main_cst_25, val_main_v220, val_main_v221, val_main_cst_26, val_main_v222, val_main_v223,
    val_main_cst_27, val_main_v224, val_main_v225, val_main_v226, val_main_v227, val_main_v228, val_main_v229, val_main_v230,
    val_main_v231, val_main_v232, val_main_v233, val_main_v234, val_main_v235, val_main_v236, val_main_v237, val_main_v238,
    val_main_v240]
  simp only [branch, gate]
  rfl

/-- A head's output: the earlier rows' part and the later rows' part, both counted from the chunk's start. -/
theorem whole (b : Fin 8) (n : Fin 32) (i : Fin 128) (h : Fin 4) (e : Fin 128) :
    val_main_v164 (F := Ideal) x0 x1 x2 x3 x4 (ix4 b ⟨n.val * 128 + i.val, by omega⟩ h e) =
    (∑ j : Fin 128, x0 (ix3 b ⟨n.val * 128 + j.val, by omega⟩ ⟨512 + (h.val * 128 + e.val), by omega⟩) *
        (score x0 b h ⟨n.val * 128 + i.val, by omega⟩ ⟨n.val * 128 + j.val, by omega⟩ * val_main_v96 (F := Ideal) x3 (ix3 h i j)) +
      ∑ d : Fin 64, x1 (ix5 b n h d e) *
        (val_main_v51 (F := Ideal) x0 (ix4 b ⟨n.val * 128 + i.val, by omega⟩ h d) * val_main_v110 (F := Ideal) x3 (ix2 i h))) +
    (∑ j : Fin 128, x0 (ix3 b ⟨n.val * 128 + j.val, by omega⟩ ⟨512 + (h.val * 128 + e.val), by omega⟩) *
        (score x0 b h ⟨n.val * 128 + i.val, by omega⟩ ⟨n.val * 128 + j.val, by omega⟩ * val_main_v141 (F := Ideal) x4 (ix3 h i.rev j.rev)) +
      ∑ d : Fin 64, x2 (ix5 b n h d e) *
        (val_main_v51 (F := Ideal) x0 (ix4 b ⟨n.val * 128 + i.val, by omega⟩ h d) * val_main_v155 (F := Ideal) x4 (ix2 i.rev h))) := by
  have hrow : ∀ j : Fin 128, Fin.rev (⟨n.rev.val * 128 + j.val, by have := n.rev.isLt; omega⟩ : Fin 4096) = ⟨n.val * 128 + j.rev.val, by omega⟩ := by
    intro j
    ext
    simp only [Fin.val_rev]
    omega
  have e1 : val_main_v117 (F := Ideal) x0 x1 x3 (ix4 b ⟨n.val * 128 + i.val, by omega⟩ h e) = val_main_v116 (F := Ideal) x0 x1 x3 (ix5 b n i h e) := by
    pointwise [val_main_v117]
  have e2 : val_main_v163 (F := Ideal) x0 x2 x4 (ix4 b ⟨n.val * 128 + i.val, by omega⟩ h e) =
      val_main_v161 (F := Ideal) x0 x2 x4 (ix5 b n.rev i.rev h e) := by
    pointwise [val_main_v163, val_main_v162]
    have hn : (⟨(Fin.rev (⟨n.val * 128 + i.val, by omega⟩ : Fin 4096)).val / 128, by omega⟩ : Fin 32) = n.rev := by
      ext; simp only [Fin.val_rev]; omega
    have hi : (⟨(Fin.rev (⟨n.val * 128 + i.val, by omega⟩ : Fin 4096)).val % 128, by omega⟩ : Fin 128) = i.rev := by
      ext; simp only [Fin.val_rev]; omega
    rw [← hn, ← hi]
    rfl
  have e3 : val_main_v161 (F := Ideal) x0 x2 x4 (ix5 b n.rev i.rev h e) =
      ∑ j : Fin 128, x0 (ix3 b ⟨n.val * 128 + j.val, by omega⟩ ⟨512 + (h.val * 128 + e.val), by omega⟩) *
        (score x0 b h ⟨n.val * 128 + i.val, by omega⟩ ⟨n.val * 128 + j.val, by omega⟩ * val_main_v141 (F := Ideal) x4 (ix3 h i.rev j.rev)) +
      ∑ d : Fin 64, x2 (ix5 b n h d e) *
        (val_main_v51 (F := Ideal) x0 (ix4 b ⟨n.val * 128 + i.val, by omega⟩ h d) * val_main_v155 (F := Ideal) x4 (ix2 i.rev h)) := by
    rw [bwd]
    simp only [hrow, Fin.rev_rev]
    refine congrArg (· + _) (Fintype.sum_equiv Fin.revPerm _ _ fun j => ?_)
    simp only [Fin.revPerm_apply, Fin.rev_rev]
  show val_main_v117 (F := Ideal) x0 x1 x3 _ + val_main_v163 (F := Ideal) x0 x2 x4 _ = (_ : EReal)
  rw [e1, e2, e3, fwd]

end Cert.MixRefValue
-- ==== Proof.MixValue.lean ====
module

public import proofs.«01_k».proof.Proof.Gen.MixIdeal.Frame
public import proofs.«01_k».proof.Proof.MixBlock
public import proofs.«01_k».proof.Proof.MixRead
public import proofs.«01_k».proof.Proof.MixRefRead
public import proofs.«01_k».proof.Proof.MixSum
public import proofs.«01_k».proof.Proof.Gen.MixRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixValue

open Cert.MixIdeal Cert.MixIdeal.Gen
open Cert.MixRefValue (turned score query key decay_fwd decay_bwd qdec_fwd qdec_bwd whole ret_read sgu_read gateNorm)

variable (m : (ℓ : Loc nD τ sig) → Buf (Elt Ideal) ℓ)
/-- One lane of a rotated pair is the reference's rotation of its head's lane. -/
theorem roped_turned (x : FVec Ideal S1x1024x256 .bf16) (cos sin : FVec Ideal S1024x128 .f32) (z : FVec Ideal S8x4096x6400 .bf16)
    (c₀ : ℕ) (hc : c₀ ≤ 256) (b : Fin 8) (t : Fin 4096) (r : Fin 1024)
    (hx : ∀ l : Fin 256, x (ix3 0 r l) = z (ix3 b t ⟨c₀ + l.val, by omega⟩))
    (hcos : ∀ l : Fin 128, cos (ix2 r l) = Cert.MixRefIdeal.Read.val_main_v27 (F := Ideal) (ix2 t ⟨l.val % 32, by omega⟩))
    (hsin : ∀ l : Fin 128, sin (ix2 r l) =
      if l.val % 64 < 32 then (- Cert.MixRefIdeal.Read.val_main_v28 (F := Ideal) (ix2 t ⟨l.val % 32, by omega⟩) : EReal)
      else Cert.MixRefIdeal.Read.val_main_v28 (F := Ideal) (ix2 t ⟨l.val % 32, by omega⟩))
    (h : Fin 4) (d : Fin 64) :
    roped x cos sin r ⟨h.val / 2, by omega⟩ ⟨64 * (h.val % 2) + d.val, by omega⟩ = turned z c₀ hc b t h d := by
  have hsel : ∀ l : Fin 128, IntOp.cmpi .eq (IntOp.andi (BitVec.ofNat 32 l.val) 32#32) 0#32 = if l.val % 64 < 32 then 1#1 else 0#1 := by
    decide
  have hs := hsel ⟨64 * (h.val % 2) + d.val, by omega⟩
  unfold roped turned
  rw [hx, hx, hx, hcos, hsin, hs]
  by_cases hd : d.val < 32
  · have hl : (64 * (h.val % 2) + d.val) % 64 < 32 := by omega
    rw [if_pos hd, if_pos hl, if_pos hl, mul_neg, ← sub_eq_add_neg]
    show (z _ * _ - z _ * _ : EReal) = _
    congr 4 <;> (ext; dsimp only; omega)
  · have hl : ¬ (64 * (h.val % 2) + d.val) % 64 < 32 := by omega
    rw [if_neg hd, if_neg hl, if_neg hl, add_comm]
    show (z _ * _ + z _ * _ : EReal) = _
    congr 4 <;> (ext; dsimp only; omega)

/-- A pair's decayed query times the packed states is the head's own product. -/
theorem cross (q w σ : Fin 128 → EReal) (s : FVec Ideal S8x32x4x64x128 .f32) (b : Fin 8) (n : Fin 32) (h : Fin 4) (e : Fin 128)
    (T : Fin 64 → EReal) (k : EReal) (hq : ∀ d : Fin 64, q ⟨64 * (h.val % 2) + d.val, by omega⟩ = T d)
    (hw : ∀ d : Fin 64, w ⟨64 * (h.val % 2) + d.val, by omega⟩ = k)
    (hσ : ∀ d : Fin 128, σ d = packed s (ix5 b n ⟨h.val / 2, by omega⟩ d ⟨128 * (h.val % 2) + e.val, by omega⟩)) :
    ∑ d : Fin 128, q d * w d * σ d
      = ∑ d : Fin 64, s (ix5 b n h d e) * (T d * k) := by
  have h1 : ∀ d : Fin 128, q d * w d * σ d =
      if d.val / 64 = h.val % 2 then
        q d * w d * s (ix5 b n ⟨h.val / 2 * 2 + d.val / 64, by omega⟩ ⟨d.val % 64, by omega⟩ ⟨(128 * (h.val % 2) + e.val) % 128, by omega⟩)
      else 0 := fun d => by
    rw [hσ, packed_apply]
    have hl : (128 * (h.val % 2) + e.val) / 128 = h.val % 2 := by omega
    dsimp only
    rw [hl, mul_ite, mul_zero]
  simp only [h1]
  refine (Cert.MixSum.sum_half (h.val % 2) (by omega) (fun d =>
    q d * w d * s (ix5 b n ⟨h.val / 2 * 2 + d.val / 64, by omega⟩ ⟨d.val % 64, by omega⟩ ⟨(128 * (h.val % 2) + e.val) % 128, by omega⟩))).trans ?_
  refine Finset.sum_congr rfl fun d _ => ?_
  have i1 : (⟨h.val / 2 * 2 + (64 * (h.val % 2) + d.val) / 64, by omega⟩ : Fin 4) = h := Fin.ext (by dsimp only; omega)
  have i2 : (⟨(64 * (h.val % 2) + d.val) % 64, by omega⟩ : Fin 64) = d := Fin.ext (by dsimp only; omega)
  have i3 : (⟨(128 * (h.val % 2) + e.val) % 128, by omega⟩ : Fin 128) = e := Fin.ext (by dsimp only; omega)
  dsimp only
  rw [i1, i2, i3, hq, hw, mul_comm]

/-- The states the forward and the backward direction start a chunk from. -/
abbrev sfin (c : Dev nD) : FVec Ideal S8x32x4x64x128 .f32 := m ((c : Thread nD τ).loc main_arg1)

abbrev sbin (c : Dev nD) : FVec Ideal S8x32x4x64x128 .f32 := m ((c : Thread nD τ).loc main_arg2)

/-- A head's output with the chunk's rows named. -/
theorem whole_rows (z : FVec Ideal S8x4096x6400 .bf16) (s s' : FVec Ideal S8x32x4x64x128 .f32) (g g' : FVec Ideal S4 .f32)
    (b : Fin 8) (n : Fin 32) (i : Fin 128) (h : Fin 4) (e : Fin 128) (ρ : Fin 128 → Fin 4096)
    (hρ : ∀ j : Fin 128, ⟨n.val * 128 + j.val, by omega⟩ = ρ j) :
    Cert.MixRefIdeal.Read.val_main_v164 (F := Ideal) z s s' g g' (ix4 b (ρ i) h e) =
    (∑ j : Fin 128, z (ix3 b (ρ j) ⟨512 + (h.val * 128 + e.val), by omega⟩) *
        (score z b h (ρ i) (ρ j) * Cert.MixRefIdeal.Read.val_main_v96 (F := Ideal) g (ix3 h i j)) +
      ∑ d : Fin 64, s (ix5 b n h d e) *
        (turned z 0 (by omega) b (ρ i) h d * Cert.MixRefIdeal.Read.val_main_v110 (F := Ideal) g (ix2 i h))) +
    (∑ j : Fin 128, z (ix3 b (ρ j) ⟨512 + (h.val * 128 + e.val), by omega⟩) *
        (score z b h (ρ i) (ρ j) * Cert.MixRefIdeal.Read.val_main_v141 (F := Ideal) g' (ix3 h i.rev j.rev)) +
      ∑ d : Fin 64, s' (ix5 b n h d e) *
        (turned z 0 (by omega) b (ρ i) h d * Cert.MixRefIdeal.Read.val_main_v155 (F := Ideal) g' (ix2 i.rev h))) := by
  obtain rfl : (fun j : Fin 128 => (⟨n.val * 128 + j.val, by omega⟩ : Fin 4096)) = ρ := funext hρ
  simp only [← query]
  exact whole z s s' g g' b n i h e

/-- A block of the retention's output, read at a row and a lane. -/
theorem retBlk_at (x0 x1 : FVec Ideal S1x1024x256 .bf16) (x2 x3 : FVec Ideal S1x1024x512 .bf16) (cos sin : FVec Ideal S1024x128 .f32)
    (sf sb : FVec Ideal S1x8x2x128x256 .bf16) (dm : FVec Ideal S4x128x128 .f32) (qdf qdb : FVec Ideal S2x128x128 .f32)
    (r : Fin 1024) (l : Fin 512) : retBlk x0 x1 x2 x3 cos sin sf sb dm qdf qdb (ix3 0 r l) =
      normed (retained x0 x1 x2 cos sin sf sb dm qdf qdb ⟨r.val / 128, by omega⟩ ⟨r.val % 128, by omega⟩ ⟨l.val / 128, by omega⟩)
        ⟨l.val % 128, by omega⟩ * (x3 (ix3 0 r l) * Ideal.logistic (x3 (ix3 0 r l))) := rfl

/-- A block of the gating unit, read at a row and a lane. -/
theorem sguBlk_at (x4 x5 : FVec Ideal S1x1024x512 .bf16) (x13 : FVec Ideal S4x128x128 .bf16) (x14 : FVec Ideal S128x512 .f32)
    (r : Fin 1024) (l : Fin 512) : sguBlk x4 x5 x13 x14 (ix3 0 r l) = gelu (x4 (ix3 0 r l)) *
      (∑ j : Fin 128, x13 (ix3 ⟨l.val / 128, by omega⟩ ⟨r.val % 128, by omega⟩ j) * gated x5 ⟨128 * (r.val / 128) + j.val, by omega⟩ l
        + x14 (ix2 ⟨r.val % 128, by omega⟩ l)) := rfl

/-- The scale of the keys comes out of the scores. -/
theorem score_eq (z : FVec Ideal S8x4096x6400 .bf16) (b : Fin 8) (h : Fin 4) (r r' : Fin 4096) :
    score z b h r r' = (∑ d : Fin 64, turned z 0 (by omega) b r h d * turned z 256 (by omega) b r' h d : EReal) * Ideal.ofBits .f32 0x3E000000#32 := by
  unfold score
  simp only [query, key, ← mul_assoc]
  refine Cert.MixSum.sum_mul_const _ _ ?_ ?_
  · rw [Cert.MixSum.bits_eighth]
    exact EReal.coe_nonneg.mpr (by norm_num)
  · rw [Cert.MixSum.bits_eighth]
    exact EReal.coe_ne_top _

variable (c : Dev nD) (t : Fin cfg0.N)

theorem roped_query (r : Fin 1024) (h : Fin 4) (d : Fin 64) :
    roped (iblk m c 0 t) (iblk m c 6 t) (iblk m c 7 t) r ⟨h.val / 2, by omega⟩ ⟨64 * (h.val % 2) + d.val, by omega⟩
      = turned (zin m c) 0 (by omega) (batch t) (row t r) h d := by
  refine roped_turned _ _ _ (zin m c) 0 (by omega) (batch t) (row t r) r (fun l => ?_) (fun l => ?_) (fun l => ?_) h d
  · rw [block0]
    congr 2
    exact Fin.ext (by dsimp only; omega)
  · rw [block6, V_cos]
  · rw [block7, V_sin]

theorem roped_key (r : Fin 1024) (h : Fin 4) (d : Fin 64) :
    roped (iblk m c 1 t) (iblk m c 6 t) (iblk m c 7 t) r ⟨h.val / 2, by omega⟩ ⟨64 * (h.val % 2) + d.val, by omega⟩
      = turned (zin m c) 256 (by omega) (batch t) (row t r) h d := by
  refine roped_turned _ _ _ (zin m c) 256 (by omega) (batch t) (row t r) r (fun l => ?_) (fun l => ?_) (fun l => ?_) h d
  · rw [block1]
  · rw [block6, V_cos]
  · rw [block7, V_sin]

/-- The scores of a head inside a chunk. -/
theorem inner (n : Fin 8) (i j : Fin 128) (h : Fin 4) :
    ∑ d : Fin 128, headOnly (h.val % 2) d
        (roped (iblk m c 0 t) (iblk m c 6 t) (iblk m c 7 t) ⟨128 * n.val + i.val, by omega⟩ ⟨h.val / 2, by omega⟩ d
          * roped (iblk m c 1 t) (iblk m c 6 t) (iblk m c 7 t) ⟨128 * n.val + j.val, by omega⟩ ⟨h.val / 2, by omega⟩ d)
      = ∑ d : Fin 64, turned (zin m c) 0 (by omega) (batch t) (row t ⟨128 * n.val + i.val, by omega⟩) h d
          * turned (zin m c) 256 (by omega) (batch t) (row t ⟨128 * n.val + j.val, by omega⟩) h d := by
  unfold headOnly
  refine (Cert.MixSum.sum_half (h.val % 2) (by omega) _).trans (Finset.sum_congr rfl fun d _ => ?_)
  rw [roped_query, roped_key]

/-- The forward decay a chunk's row is read with. -/
theorem decay_forward (i : Fin 128) (h : Fin 4) (d : Fin 64) :
    (iblk m c 11 t : FVec Ideal S2x128x128 .f32) (ix3 ⟨h.val / 2, by omega⟩ i ⟨64 * (h.val % 2) + d.val, by omega⟩)
      = Cert.MixRefIdeal.Read.val_main_v110 (F := Ideal) (m ((c : Thread nD τ).loc main_arg3)) (ix2 i h) := by
  have i1 : (⟨h.val / 2 * 2 + (64 * (h.val % 2) + d.val) / 64, by omega⟩ : Fin 4) = h := Fin.ext (by dsimp only; omega)
  refine (block11 m c t _).trans ((V_qdf m c _ _ _).trans ?_)
  rw [qdec_fwd]
  exact congrArg (fun x : Fin 4 => Ideal.exp (_ * Cert.MixRefIdeal.Read.val_main_v29 (F := Ideal) (m ((c : Thread nD τ).loc main_arg3)) (ix1 x))) i1

/-- The forward states a chunk is read with. -/
theorem state_forward (n : Fin 8) (p : Fin 2) (d : Fin 128) (l : Fin 256) :
    (iblk m c 8 t : FVec Ideal S1x8x2x128x256 .bf16) (ix5 0 n p d l) = packed (sfin m c) (ix5 (batch t) (chunk t n) p d l) :=
  (block8 m c t n p d l).trans (congrFun (V_sf m c) _)

/-- The product with the forward state. -/
theorem cross_forward (n : Fin 8) (i : Fin 128) (h : Fin 4) (e : Fin 128) :
    ∑ d : Fin 128, roped (iblk m c 0 t) (iblk m c 6 t) (iblk m c 7 t) ⟨128 * n.val + i.val, by omega⟩ ⟨h.val / 2, by omega⟩ d
        * (iblk m c 11 t : FVec Ideal S2x128x128 .f32) (ix3 ⟨h.val / 2, by omega⟩ i d)
        * (iblk m c 8 t : FVec Ideal S1x8x2x128x256 .bf16) (ix5 0 n ⟨h.val / 2, by omega⟩ d ⟨128 * (h.val % 2) + e.val, by omega⟩)
      = ∑ d : Fin 64, sfin m c (ix5 (batch t) (chunk t n) h d e)
          * (turned (zin m c) 0 (by omega) (batch t) (row t ⟨128 * n.val + i.val, by omega⟩) h d
            * Cert.MixRefIdeal.Read.val_main_v110 (F := Ideal) (m ((c : Thread nD τ).loc main_arg3)) (ix2 i h)) :=
  cross (fun d => roped (iblk m c 0 t) (iblk m c 6 t) (iblk m c 7 t) ⟨128 * n.val + i.val, by omega⟩ ⟨h.val / 2, by omega⟩ d)
    (fun d => (iblk m c 11 t : FVec Ideal S2x128x128 .f32) (ix3 ⟨h.val / 2, by omega⟩ i d))
    (fun d => (iblk m c 8 t : FVec Ideal S1x8x2x128x256 .bf16) (ix5 0 n ⟨h.val / 2, by omega⟩ d ⟨128 * (h.val % 2) + e.val, by omega⟩))
    (sfin m c) (batch t) (chunk t n) h e
    (fun d => turned (zin m c) 0 (by omega) (batch t) (row t ⟨128 * n.val + i.val, by omega⟩) h d)
    (Cert.MixRefIdeal.Read.val_main_v110 (F := Ideal) (m ((c : Thread nD τ).loc main_arg3)) (ix2 i h))
    (fun d => roped_query m c t ⟨128 * n.val + i.val, by omega⟩ h d) (fun d => decay_forward m c t i h d)
    (fun d => state_forward m c t n ⟨h.val / 2, by omega⟩ d ⟨128 * (h.val % 2) + e.val, by omega⟩)

/-- The backward decay a chunk's row is read with. -/
theorem decay_backward (i : Fin 128) (h : Fin 4) (d : Fin 64) :
    (iblk m c 12 t : FVec Ideal S2x128x128 .f32) (ix3 ⟨h.val / 2, by omega⟩ i ⟨64 * (h.val % 2) + d.val, by omega⟩)
      = Cert.MixRefIdeal.Read.val_main_v155 (F := Ideal) (m ((c : Thread nD τ).loc main_arg4)) (ix2 i.rev h) := by
  have i1 : (⟨h.val / 2 * 2 + (64 * (h.val % 2) + d.val) / 64, by omega⟩ : Fin 4) = h := Fin.ext (by dsimp only; omega)
  refine (block12 m c t _).trans ((V_qdb m c _ _ _).trans ?_)
  rw [qdec_bwd, Cert.MixSum.rev_count]
  exact congrArg (fun x : Fin 4 => Ideal.exp (_ * Cert.MixRefIdeal.Read.val_main_v30 (F := Ideal) (m ((c : Thread nD τ).loc main_arg4)) (ix1 x))) i1

/-- The backward states a chunk is read with. -/
theorem state_backward (n : Fin 8) (p : Fin 2) (d : Fin 128) (l : Fin 256) :
    (iblk m c 9 t : FVec Ideal S1x8x2x128x256 .bf16) (ix5 0 n p d l) = packed (sbin m c) (ix5 (batch t) (chunk t n) p d l) :=
  (block9 m c t n p d l).trans (congrFun (V_sb m c) _)

/-- The product with the backward state. -/
theorem cross_backward (n : Fin 8) (i : Fin 128) (h : Fin 4) (e : Fin 128) :
    ∑ d : Fin 128, roped (iblk m c 0 t) (iblk m c 6 t) (iblk m c 7 t) ⟨128 * n.val + i.val, by omega⟩ ⟨h.val / 2, by omega⟩ d
        * (iblk m c 12 t : FVec Ideal S2x128x128 .f32) (ix3 ⟨h.val / 2, by omega⟩ i d)
        * (iblk m c 9 t : FVec Ideal S1x8x2x128x256 .bf16) (ix5 0 n ⟨h.val / 2, by omega⟩ d ⟨128 * (h.val % 2) + e.val, by omega⟩)
      = ∑ d : Fin 64, sbin m c (ix5 (batch t) (chunk t n) h d e)
          * (turned (zin m c) 0 (by omega) (batch t) (row t ⟨128 * n.val + i.val, by omega⟩) h d
            * Cert.MixRefIdeal.Read.val_main_v155 (F := Ideal) (m ((c : Thread nD τ).loc main_arg4)) (ix2 i.rev h)) :=
  cross (fun d => roped (iblk m c 0 t) (iblk m c 6 t) (iblk m c 7 t) ⟨128 * n.val + i.val, by omega⟩ ⟨h.val / 2, by omega⟩ d)
    (fun d => (iblk m c 12 t : FVec Ideal S2x128x128 .f32) (ix3 ⟨h.val / 2, by omega⟩ i d))
    (fun d => (iblk m c 9 t : FVec Ideal S1x8x2x128x256 .bf16) (ix5 0 n ⟨h.val / 2, by omega⟩ d ⟨128 * (h.val % 2) + e.val, by omega⟩))
    (sbin m c) (batch t) (chunk t n) h e
    (fun d => turned (zin m c) 0 (by omega) (batch t) (row t ⟨128 * n.val + i.val, by omega⟩) h d)
    (Cert.MixRefIdeal.Read.val_main_v155 (F := Ideal) (m ((c : Thread nD τ).loc main_arg4)) (ix2 i.rev h))
    (fun d => roped_query m c t ⟨128 * n.val + i.val, by omega⟩ h d) (fun d => decay_backward m c t i h d)
    (fun d => state_backward m c t n ⟨h.val / 2, by omega⟩ d ⟨128 * (h.val % 2) + e.val, by omega⟩)

/-- The retention of a head in a chunk is the reference's. -/
theorem retained_eq (n : Fin 8) (i : Fin 128) (h : Fin 4) (e : Fin 128) :
    retained (iblk m c 0 t) (iblk m c 1 t) (X0_2 m c t) (iblk m c 6 t) (iblk m c 7 t) (iblk m c 8 t) (iblk m c 9 t)
        (iblk m c 10 t) (iblk m c 11 t) (iblk m c 12 t) n i h e
      = Cert.MixRefIdeal.Read.val_main_v164 (F := Ideal) (zin m c) (m ((c : Thread nD τ).loc main_arg1)) (m ((c : Thread nD τ).loc main_arg2))
          (m ((c : Thread nD τ).loc main_arg3)) (m ((c : Thread nD τ).loc main_arg4))
          (ix4 (batch t) (row t ⟨128 * n.val + i.val, by omega⟩) h e) := by
  have hw := whole_rows (zin m c) (m ((c : Thread nD τ).loc main_arg1)) (m ((c : Thread nD τ).loc main_arg2))
    (m ((c : Thread nD τ).loc main_arg3)) (m ((c : Thread nD τ).loc main_arg4)) (batch t) (chunk t n) i h e
    (fun j => row t ⟨128 * n.val + j.val, by omega⟩) (fun j => Fin.ext (by dsimp only; omega))
  rw [hw, add_add_add_comm, ← Finset.sum_add_distrib]
  unfold retained
  rw [cross_forward, cross_backward]
  refine congrArg (· + _) (Finset.sum_congr rfl fun j _ => ?_)
  rw [inner, block10, V_dm, block2, score_eq, decay_fwd, decay_bwd]
  have hg : gap i j = ((i.val : ℝ) : EReal) - ((j.val : ℝ) : EReal) := by
    unfold gap
    rw [Cert.MixSum.counter, Cert.MixSum.counter]
  have hg' : gap i.rev j.rev = ((j.val : ℝ) : EReal) - ((i.val : ℝ) : EReal) := by
    unfold gap
    rw [Cert.MixSum.counter, Cert.MixSum.counter, Cert.MixSum.rev_gap]
  have hv : (⟨512 + (128 * h.val + e.val), by omega⟩ : Fin 6400) = ⟨512 + (h.val * 128 + e.val), by omega⟩ := Fin.ext (by dsimp only; omega)
  dsimp only
  rw [hv]
  exact (Cert.MixSum.pair_term _ _ _ _ _ i j _ _ hg hg').symm

/-- What a grid point stores of the retention is the reference's, at the row the block puts it at. -/
theorem ret_point (r : Fin 1024) (l : Fin 512) :
    retBlk (iblk m c 0 t) (iblk m c 1 t) (X0_2 m c t) (X0_3 m c t) (iblk m c 6 t) (iblk m c 7 t) (iblk m c 8 t) (iblk m c 9 t)
        (iblk m c 10 t) (iblk m c 11 t) (iblk m c 12 t) (ix3 0 r l)
      = Cert.MixRefIdeal.Read.val_main_v239 (F := Ideal) (zin m c) (m ((c : Thread nD τ).loc main_arg1)) (m ((c : Thread nD τ).loc main_arg2))
          (m ((c : Thread nD τ).loc main_arg3)) (m ((c : Thread nD τ).loc main_arg4)) (ix3 (batch t) (row t r) l) := by
  rw [ret_read]
  have h1 : retained (iblk m c 0 t) (iblk m c 1 t) (X0_2 m c t) (iblk m c 6 t) (iblk m c 7 t) (iblk m c 8 t) (iblk m c 9 t)
      (iblk m c 10 t) (iblk m c 11 t) (iblk m c 12 t) ⟨r.val / 128, by omega⟩ ⟨r.val % 128, by omega⟩ ⟨l.val / 128, by omega⟩
      = fun e => Cert.MixRefIdeal.Read.val_main_v164 (F := Ideal) (zin m c) (m ((c : Thread nD τ).loc main_arg1)) (m ((c : Thread nD τ).loc main_arg2))
          (m ((c : Thread nD τ).loc main_arg3)) (m ((c : Thread nD τ).loc main_arg4)) (ix4 (batch t) (row t r) ⟨l.val / 128, by omega⟩ e) := by
    funext e
    have hr : (⟨128 * (r.val / 128) + r.val % 128, by omega⟩ : Fin 1024) = r := Fin.ext (by dsimp only; omega)
    rw [retained_eq]
    dsimp only
    rw [hr]
  rw [retBlk_at, h1, block3]

theorem gated_eq (r : Fin 1024) (l : Fin 512) : gated (X0_5 m c t) r l = gateNorm (zin m c) (batch t) (row t r) l := by
  unfold gated centred gateNorm
  simp only [block5]

/-- What a grid point stores of the gating unit is the reference's, at the row the block puts it at. -/
theorem sgu_point (r : Fin 1024) (l : Fin 512) :
    sguBlk (X0_4 m c t) (X0_5 m c t) (iblk m c 13 t) (iblk m c 14 t) (ix3 0 r l)
      = Cert.MixRefIdeal.Read.val_main_v240 (F := Ideal) (zin m c) (m ((c : Thread nD τ).loc main_arg5)) (m ((c : Thread nD τ).loc main_arg6))
          (ix3 (batch t) (row t r) l) := by
  rw [sgu_read]
  have h1 : ∀ j : Fin 128, (⟨(row t r).val / 128 * 128 + j.val, by have := (row t r).isLt; omega⟩ : Fin 4096)
      = row t ⟨128 * (r.val / 128) + j.val, by omega⟩ := fun j => Fin.ext (by dsimp only; omega)
  have h2 : (⟨(row t r).val % 128, by omega⟩ : Fin 128) = ⟨r.val % 128, by omega⟩ := Fin.ext (by dsimp only; omega)
  simp only [h1, h2]
  rw [sguBlk_at]
  rw [block4, block14]
  refine congrArg (_ * ·) (congrArg (· + _) (Finset.sum_congr rfl fun j _ => ?_))
  rw [block13, gated_eq, mul_comm]

/-- The row and lane an output block's entry is put at. -/
theorem emb15 (r : Fin 1024) (l : Fin 512) :
    ((cfg0.win 15).blk t).view.emb (ix3 0 r l) = (ix3 (batch t) (row t r) l : S8x4096x512.Idx) := by
  blk_ext [idx t]

theorem emb16 (r : Fin 1024) (l : Fin 512) :
    ((cfg0.win 16).blk t).view.emb (ix3 0 r l) = (ix3 (batch t) (row t r) l : S8x4096x512.Idx) := by
  blk_ext [idx t]

/-- A block that agrees row by row with the array agrees at every entry. -/
theorem placed (f : FVec Ideal S1x1024x512 .bf16) (g : FVec Ideal S8x4096x512 .bf16) (emb : S1x1024x512.Idx → S8x4096x512.Idx)
    (he : ∀ (r : Fin 1024) (l : Fin 512), emb (ix3 0 r l) = ix3 (batch t) (row t r) l)
    (hf : ∀ (r : Fin 1024) (l : Fin 512), f (ix3 0 r l) = g (ix3 (batch t) (row t r) l)) (y : S1x1024x512.Idx) : f y = g (emb y) := by
  have hy : y = ix3 0 (y 1) (y 2) := by
    blk_ext []
  rw [hy]
  exact (hf _ _).trans (congrArg g (he _ _)).symm

omit t

/-- After the run the call's first result array is the reference's retention of its arguments. -/
theorem final15 : (dats m 0 c).arrAt 15 cfg0.N
    = Cert.MixRefIdeal.Read.val_main_v239 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 15 _ (by decide +kernel) fun t _ y => ?_
  blk_simp
  rw [after0_15, ret_A]
  exact placed t _ _ _ (emb15 t) (ret_point m c t) y

/-- After the run the call's second result array is the reference's gating unit of its arguments. -/
theorem final16 : (dats m 0 c).arrAt 16 cfg0.N
    = Cert.MixRefIdeal.Read.val_main_v240 (F := Ideal) (m ((c : Thread nD τ).loc main_arg0)) (m ((c : Thread nD τ).loc main_arg5))
        (m ((c : Thread nD τ).loc main_arg6)) := by
  refine (dats m 0 c).arrAt_eq_of_covers 16 _ (by decide +kernel) fun t _ y => ?_
  blk_simp
  rw [after0_16, sgu_A]
  exact placed t _ _ _ (emb16 t) (sgu_point m c t) y

end Cert.MixValue
-- ==== Proof.MixClaim.lean ====
module

public import proofs.«01_k».proof.Defs
public import proofs.«01_k».proof.Proof.MixValue
public import proofs.«01_k».proof.Proof.Gen.MixIdeal.Value
public import proofs.«01_k».proof.Proof.Gen.MixRefIdeal.Run
public import proofs.«01_k».proof.Proof.Gen.MixRefIdeal.Read
public import Idealize.ShloMosaic.Lib.Claim

@[expose] public section

set_option maxRecDepth 16384

noncomputable section

open Idealize.ShloMosaic Idealize.SL.Sem

namespace Cert.MixClaim

/-- The mixing kernel and its reference end with the same two arrays. -/
theorem algebraic : Cert.algebraic_MixIdeal_MixRefIdeal (hMixIdeal := Cert.MixIdeal.Gen.facts)
    (hMixRefIdeal := Cert.MixRefIdeal.Gen.facts) := by
  pair_intro
  · run_from Cert.MixIdeal.Value.run_blocks m g
  · run_from Cert.MixRefIdeal.Value.run m' g'
    · rw [Cert.MixRefIdeal.Read.val_main_v239_eq, Cert.MixValue.final15 m c]
      simp only [hagree c]
    · obtain ⟨h0, h1, h2, h3, h4, h5, h6⟩ := hagree c
      rw [Cert.MixValue.final16 m c, ← h0, ← h5, ← h6]
      exact Cert.MixRefIdeal.Read.val_main_v240_eq (StableHlo.launchContents m' c)

end Cert.MixClaim

end
-- ==== Proof.StatesBlock.lean ====
module

public import proofs.«01_k».proof.Proof.Gen.StatesIdeal.Frame
public import proofs.«01_k».proof.Proof.MixBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.StatesValue

open Cert.StatesIdeal Cert.StatesIdeal.Gen
open Cert.MixValue (roped)

variable (m : (ℓ : Loc nD τ sig) → Buf (Elt Ideal) ℓ)

/-- A state after `n` chunks of a tile: decayed by `a` at each, with `b` times the chunk's own sum added. -/
def st (a b : EReal) (u : Fin 8 → EReal) (s : EReal) : (n : ℕ) → n ≤ 8 → EReal
  | 0, _ => s
  | n + 1, h => a * st a b u s n (Nat.le_of_succ_le h) + b * u ⟨n, h⟩

/-- A chunk's own sum at key lane `d` and value lane `l` of a pair of heads: the decayed keys times the values. -/
def upd (x0 : FVec Ideal S1x1024x256 .bf16) (x1 : FVec Ideal S1x1024x512 .bf16) (cos sin : FVec Ideal S1024x128 .f32)
    (wk : FVec Ideal S2x128x128 .f32) (p : Fin 2) (d : Fin 128) (l : Fin 256) (n : Fin 8) : EReal :=
  ∑ j : Fin 128, roped x0 cos sin ⟨128 * n.val + j.val, by omega⟩ p d * wk (ix3 p j d)
    * x1 (ix3 0 ⟨128 * n.val + j.val, by omega⟩ ⟨256 * p.val + l.val, by omega⟩)

/-- The state of a pair of heads after `n` chunks of a tile, forward. -/
def fst (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32)
    (p : Fin 2) (d : Fin 128) (l : Fin 256) (n : ℕ) (h : n ≤ 8) : EReal :=
  st (cd (ix3 p d l)) (bm (ix2 d l)) (upd x0 x1 cos sin wk p d l) (s (ix3 p d l)) n h

/-- What a tile's chunks read, forward. -/
def fblk (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32) :
    FVec Ideal S1x8x2x128x256 .bf16 := fun y => fst x0 x1 cos sin wk cd bm s (y 2) (y 3) (y 4) (y 1).val (y 1).isLt.le

/-- The state of a pair of heads after `n` chunks of a tile, backward: the tile's chunks from the last. -/
def bst (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32)
    (p : Fin 2) (d : Fin 128) (l : Fin 256) (n : ℕ) (h : n ≤ 8) : EReal :=
  st (cd (ix3 p d l)) (bm (ix2 d l)) (fun j => upd x0 x1 cos sin wk p d l ⟨7 - j.val, by omega⟩) (s (ix3 p d l)) n h

/-- What a tile's chunks read, backward. -/
def bblk (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32) :
    FVec Ideal S1x8x2x128x256 .bf16 := fun y => bst x0 x1 cos sin wk cd bm s (y 2) (y 3) (y 4) (7 - (y 1).val) (by omega)

theorem fblk_piece (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32)
    (y : S1x8x2x128x256.Idx) (x : S1x1x1x128x256.Idx) (n p : ℕ) (hn : n ≤ 8) (hp : p < 2) (h1 : n = (y 1).val) (h2 : (y 2).val = p)
    (h3 : (y 3).val = (x 3).val) (h4 : (y 4).val = (x 4).val) :
    fblk x0 x1 cos sin wk cd bm s y = fst x0 x1 cos sin wk cd bm s ⟨p, hp⟩ (x 3) (x 4) n hn := by
  subst h1
  have e2 : (y 2 : Fin 2) = ⟨p, hp⟩ := Fin.ext h2
  have e3 : (y 3 : Fin 128) = x 3 := Fin.ext h3
  have e4 : (y 4 : Fin 256) = x 4 := Fin.ext h4
  show fst x0 x1 cos sin wk cd bm s _ _ _ _ _ = _
  rw [e2, e3, e4]
  rfl

theorem bblk_piece (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32)
    (y : S1x8x2x128x256.Idx) (x : S1x1x1x128x256.Idx) (n p : ℕ) (hn : n ≤ 8) (hp : p < 2) (h1 : n = 7 - (y 1).val) (h2 : (y 2).val = p)
    (h3 : (y 3).val = (x 3).val) (h4 : (y 4).val = (x 4).val) :
    bblk x0 x1 cos sin wk cd bm s y = bst x0 x1 cos sin wk cd bm s ⟨p, hp⟩ (x 3) (x 4) n hn := by
  subst h1
  have e2 : (y 2 : Fin 2) = ⟨p, hp⟩ := Fin.ext h2
  have e3 : (y 3 : Fin 128) = x 3 := Fin.ext h3
  have e4 : (y 4 : Fin 256) = x 4 := Fin.ext h4
  show bst x0 x1 cos sin wk cd bm s _ _ _ _ _ = _
  rw [e2, e3, e4]
  rfl

theorem kept0 (h : (Memref.whole cc0_scratch0).IsWhole) (x : FVec Ideal S2x128x256 .f32) :
    View.read (Elt Ideal) (View.whole cc0_scratch0) (h.unread x) = x := by
  change View.read (Elt Ideal) (Memref.whole _).view (h.unread x) = x
  exact Memref.IsWhole.read_unread (Val := Elt Ideal) h x

theorem kept1 (h : (Memref.whole cc0_scratch1).IsWhole) (x : FVec Ideal S2x128x256 .f32) :
    View.read (Elt Ideal) (View.whole cc0_scratch1) (h.unread x) = x := by
  change View.read (Elt Ideal) (Memref.whole _).view (h.unread x) = x
  exact Memref.IsWhole.read_unread (Val := Elt Ideal) h x

/-- Of writes whose last two fill the two heads' halves, only those two are seen. -/
theorem newest (i1 i0) (w1 w0 : FVec Ideal S1x128x256 .f32) (L : List (View.Piece (Elt Ideal) S2x128x256 .f32)) (y : S2x128x256.Idx) :
    View.canon ((⟨Rect.unit ![1, 0, 0] ![1, 128, 256] i1, w1⟩ : View.Piece (Elt Ideal) S2x128x256 .f32)
      :: (⟨Rect.unit ![0, 0, 0] ![1, 128, 256] i0, w0⟩ : View.Piece (Elt Ideal) S2x128x256 .f32) :: L) y
      = if (y 0).val = 1 then w1 (ix3 0 (y 1) (y 2)) else w0 (ix3 0 (y 1) (y 2)) := by
  have h : (y 0).val < 2 := (y 0).isLt
  split
  · next h1 =>
    have e : (Rect.unit ![1, 0, 0] ![1, 128, 256] i1).emb (ix3 0 (y 1) (y 2)) = y := by
      funext a; refine Fin.ext ?_; fin_cases a
      · show 1 + 1 * 0 = (y 0).val; omega
      · show 0 + 1 * (y 1).val = (y 1).val; omega
      · show 0 + 1 * (y 2).val = (y 2).val; omega
    exact (congrArg _ e.symm).trans (View.canon_cons_emb _ _ _ _)
  · next h1 =>
    have e : (Rect.unit ![0, 0, 0] ![1, 128, 256] i0).emb (ix3 0 (y 1) (y 2)) = y := by
      funext a; refine Fin.ext ?_; fin_cases a
      · show 0 + 1 * 0 = (y 0).val; omega
      · show 0 + 1 * (y 1).val = (y 1).val; omega
      · show 0 + 1 * (y 2).val = (y 2).val; omega
    refine (View.canon_cons_of_not_mem _ _ fun hm => ?_).trans ((congrArg _ e.symm).trans (View.canon_cons_emb _ _ _ _))
    have := ((Rect.mem_set_unit (inb := i1)).mp hm 0).1
    change 1 ≤ (y 0).val at this
    omega

/-- The forward states a point starts from: the batch entry's at its first tile, the point before's after. -/
def in0 (c : Dev nD) (t : Fin cfg0.N) : FVec Ideal S2x128x256 .f32 :=
  if t.val % 4 = 0 then fun i => iblk m c 13 t (ix4 0 (i 0) (i 1) (i 2)) else (outsAt0 m c (t.val - 1) (by omega)).2.2.2.2.1

/-- The backward states a point starts from. -/
def in1 (c : Dev nD) (t : Fin cfg0.N) : FVec Ideal S2x128x256 .f32 :=
  if t.val % 4 = 0 then fun i => iblk m c 14 t (ix4 0 (i 0) (i 1) (i 2)) else (outsAt0 m c (t.val - 1) (by omega)).2.2.2.2.2

theorem whole4 (f : FVec Ideal S2x128x256 .f32) (p : Fin 2) (d : Fin 128) (l : Fin 256) : k0_pay1 f (ix4 0 p d l) = f (ix3 p d l) := by
  open_payloads
  pointwise

end Cert.StatesValue
-- ==== Proof.StatesFwd.lean ====
module

public import proofs.«01_k».proof.Proof.StatesBlock
public import proofs.«01_k».proof.Proof.MixBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.StatesValue

open Cert.StatesIdeal Cert.StatesIdeal.Gen
open Cert.MixValue (roped)

variable (m : (ℓ : Loc nD τ sig) → Buf (Elt Ideal) ℓ)

set_option maxHeartbeats 4000000 in
theorem out15 (c : Dev nD) (t : Fin cfg0.N) :
    (outsAt0 m c t.val t.isLt).1 = fblk (iblk m c 0 t) (X0_1 m c t) (iblk m c 4 t) (iblk m c 5 t) (iblk m c 8 t)
      (iblk m c 10 t) (iblk m c 12 t) (in0 m c t) := by
  unfold in0
  by_cases h0 : t.val % 4 = 0
  on_goal 2 => by_cases h1 : t.val % 4 = 3
  on_goal 1 => rw [if_pos h0, outsAt0_A m c t h0 (by omega)]
  on_goal 2 => rw [if_neg h0, outsAt0_C m c t h0 h1]
  on_goal 3 => rw [if_neg h0, outsAt0_B m c t h0 h1]
  all_goals
    dsimp only
    try generalize (outsAt0 m c (t.val - 1) _).2.2.2.2.1 = s
    frame_open
    simp (disch := decide) only [↓ View.readCov_skip, ↓ View.readCov_cons_toLoadRect, ↓ View.readCov_fill]
    frame_out
    try simp only [kept0]
    funext y
    canon_tiles x h
    all_goals
      obtain ⟨n, hn⟩ : ∃ n, n = (y 1).val := ⟨_, rfl⟩
      obtain ⟨p, hp⟩ : ∃ p, p = (y 2).val := ⟨_, rfl⟩
      simp [h1] at hn
      simp [h2] at hp
      refine Eq.trans ?_ (fblk_piece _ _ _ _ _ _ _ _ y x n p (by omega) (by omega) (by omega) (by omega) h3 h4).symm
      subst hn hp
      open_payloads
      pointwise [fst, st, upd, roped]

set_option maxHeartbeats 4000000 in
theorem sc0 (c : Dev nD) (t : Fin cfg0.N) (h1 : ¬t.val % 4 = 3) :
    (outsAt0 m c t.val t.isLt).2.2.2.2.1 = fun y => fst (iblk m c 0 t) (X0_1 m c t) (iblk m c 4 t) (iblk m c 5 t) (iblk m c 8 t)
      (iblk m c 10 t) (iblk m c 12 t) (in0 m c t) (y 0) (y 1) (y 2) 8 (by omega) := by
  unfold in0
  by_cases h0 : t.val % 4 = 0
  on_goal 1 => rw [if_pos h0, outsAt0_A m c t h0 (by omega)]
  on_goal 2 => rw [if_neg h0, outsAt0_B m c t h0 h1]
  all_goals
    dsimp only
    try generalize (outsAt0 m c (t.val - 1) _).2.2.2.2.1 = s
    frame_open
    simp (disch := decide) only [↓ View.readCov_skip, ↓ View.readCov_cons_toLoadRect, ↓ View.readCov_fill]
    frame_out
    try simp only [kept0]
    funext y
    refine (newest _ _ _ _ _ y).trans ?_
    obtain ⟨p, d, l, rfl⟩ : ∃ p d l, y = ix3 p d l := ⟨y 0, y 1, y 2, by funext a; fin_cases a <;> rfl⟩
    change (if p.val = 1 then _ else _) = fst _ _ _ _ _ _ _ _ p d l 8 _
    obtain rfl | rfl : p = 0 ∨ p = 1 := by omega
    · rw [if_neg (by decide)]
      open_payloads
      pointwise [fst, st, upd, roped]
    · rw [if_pos (by decide)]
      open_payloads
      pointwise [fst, st, upd, roped]

set_option maxHeartbeats 4000000 in
theorem out17 (c : Dev nD) (t : Fin cfg0.N) (h1 : t.val % 4 = 3) :
    (outsAt0 m c t.val t.isLt).2.2.1 = fun y => fst (iblk m c 0 t) (X0_1 m c t) (iblk m c 4 t) (iblk m c 5 t) (iblk m c 8 t)
      (iblk m c 10 t) (iblk m c 12 t) (in0 m c t) (y 1) (y 2) (y 3) 8 (by omega) := by
  unfold in0
  have h0 : ¬t.val % 4 = 0 := by omega
  rw [if_neg h0, outsAt0_C m c t h0 h1]
  dsimp only
  try generalize (outsAt0 m c (t.val - 1) _).2.2.2.2.1 = s
  frame_open
  simp (disch := decide) only [↓ View.readCov_skip, ↓ View.readCov_cons_toLoadRect, ↓ View.readCov_fill]
  frame_out
  try simp only [kept0]
  rw [View.readCov_eq_canon']
  funext y
  obtain ⟨q, p, d, l, rfl⟩ : ∃ q p d l, y = ix4 q p d l := ⟨y 0, y 1, y 2, y 3, by funext a; fin_cases a <;> rfl⟩
  obtain rfl : q = 0 := Subsingleton.elim _ _
  refine (whole4 _ p d l).trans ?_
  refine (congrArg (View.canon _) (show _ = (ix3 p d l : S2x128x256.Idx) from ?_)).trans ?_
  · funext a
    fin_cases a <;> exact Fin.ext ((Nat.zero_add _).trans (Nat.one_mul _))
  refine (newest _ _ _ _ _ _).trans ?_
  change (if p.val = 1 then _ else _) = fst _ _ _ _ _ _ _ _ p d l 8 _
  obtain rfl | rfl : p = 0 ∨ p = 1 := by omega
  · rw [if_neg (by decide)]
    open_payloads
    pointwise [fst, st, upd, roped]
  · rw [if_pos (by decide)]
    open_payloads
    pointwise [fst, st, upd, roped]

end Cert.StatesValue
-- ==== Proof.StatesBwd.lean ====
module

public import proofs.«01_k».proof.Proof.StatesBlock
public import proofs.«01_k».proof.Proof.MixBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.StatesValue

open Cert.StatesIdeal Cert.StatesIdeal.Gen
open Cert.MixValue (roped)

variable (m : (ℓ : Loc nD τ sig) → Buf (Elt Ideal) ℓ)

set_option maxHeartbeats 4000000 in
theorem out16 (c : Dev nD) (t : Fin cfg0.N) :
    (outsAt0 m c t.val t.isLt).2.1 = bblk (iblk m c 2 t) (X0_3 m c t) (iblk m c 6 t) (iblk m c 7 t) (iblk m c 9 t)
      (iblk m c 11 t) (iblk m c 12 t) (in1 m c t) := by
  unfold in1
  by_cases h0 : t.val % 4 = 0
  on_goal 2 => by_cases h1 : t.val % 4 = 3
  on_goal 1 => rw [if_pos h0, outsAt0_A m c t h0 (by omega)]
  on_goal 2 => rw [if_neg h0, outsAt0_C m c t h0 h1]
  on_goal 3 => rw [if_neg h0, outsAt0_B m c t h0 h1]
  all_goals
    dsimp only
    try generalize (outsAt0 m c (t.val - 1) _).2.2.2.2.2 = s
    frame_open
    simp (disch := decide) only [↓ View.readCov_skip, ↓ View.readCov_cons_toLoadRect, ↓ View.readCov_fill]
    frame_out
    try simp only [kept1]
    funext y
    canon_tiles x h
    all_goals
      obtain ⟨n, hn⟩ : ∃ n, n = 7 - (y 1).val := ⟨_, rfl⟩
      obtain ⟨p, hp⟩ : ∃ p, p = (y 2).val := ⟨_, rfl⟩
      simp [h1] at hn
      simp [h2] at hp
      refine Eq.trans ?_ (bblk_piece _ _ _ _ _ _ _ _ y x n p (by omega) (by omega) (by omega) (by omega) h3 h4).symm
      subst hn hp
      open_payloads
      pointwise [bst, st, upd, roped]

set_option maxHeartbeats 4000000 in
theorem sc1 (c : Dev nD) (t : Fin cfg0.N) (h1 : ¬t.val % 4 = 3) :
    (outsAt0 m c t.val t.isLt).2.2.2.2.2 = fun y => bst (iblk m c 2 t) (X0_3 m c t) (iblk m c 6 t) (iblk m c 7 t) (iblk m c 9 t)
      (iblk m c 11 t) (iblk m c 12 t) (in1 m c t) (y 0) (y 1) (y 2) 8 (by omega) := by
  unfold in1
  by_cases h0 : t.val % 4 = 0
  on_goal 1 => rw [if_pos h0, outsAt0_A m c t h0 (by omega)]
  on_goal 2 => rw [if_neg h0, outsAt0_B m c t h0 h1]
  all_goals
    dsimp only
    try generalize (outsAt0 m c (t.val - 1) _).2.2.2.2.2 = s
    frame_open
    simp (disch := decide) only [↓ View.readCov_skip, ↓ View.readCov_cons_toLoadRect, ↓ View.readCov_fill]
    frame_out
    try simp only [kept1]
    funext y
    refine (newest _ _ _ _ _ y).trans ?_
    obtain ⟨p, d, l, rfl⟩ : ∃ p d l, y = ix3 p d l := ⟨y 0, y 1, y 2, by funext a; fin_cases a <;> rfl⟩
    change (if p.val = 1 then _ else _) = bst _ _ _ _ _ _ _ _ p d l 8 _
    obtain rfl | rfl : p = 0 ∨ p = 1 := by omega
    · rw [if_neg (by decide)]
      open_payloads
      pointwise [bst, st, upd, roped]
    · rw [if_pos (by decide)]
      open_payloads
      pointwise [bst, st, upd, roped]

set_option maxHeartbeats 4000000 in
theorem out18 (c : Dev nD) (t : Fin cfg0.N) (h1 : t.val % 4 = 3) :
    (outsAt0 m c t.val t.isLt).2.2.2.1 = fun y => bst (iblk m c 2 t) (X0_3 m c t) (iblk m c 6 t) (iblk m c 7 t) (iblk m c 9 t)
      (iblk m c 11 t) (iblk m c 12 t) (in1 m c t) (y 1) (y 2) (y 3) 8 (by omega) := by
  unfold in1
  have h0 : ¬t.val % 4 = 0 := by omega
  rw [if_neg h0, outsAt0_C m c t h0 h1]
  dsimp only
  try generalize (outsAt0 m c (t.val - 1) _).2.2.2.2.2 = s
  frame_open
  simp (disch := decide) only [↓ View.readCov_skip, ↓ View.readCov_cons_toLoadRect, ↓ View.readCov_fill]
  frame_out
  try simp only [kept1]
  rw [View.readCov_eq_canon']
  funext y
  obtain ⟨q, p, d, l, rfl⟩ : ∃ q p d l, y = ix4 q p d l := ⟨y 0, y 1, y 2, y 3, by funext a; fin_cases a <;> rfl⟩
  obtain rfl : q = 0 := Subsingleton.elim _ _
  refine (whole4 _ p d l).trans ?_
  refine (congrArg (View.canon _) (show _ = (ix3 p d l : S2x128x256.Idx) from ?_)).trans ?_
  · funext a
    fin_cases a <;> exact Fin.ext ((Nat.zero_add _).trans (Nat.one_mul _))
  refine (newest _ _ _ _ _ _).trans ?_
  change (if p.val = 1 then _ else _) = bst _ _ _ _ _ _ _ _ p d l 8 _
  obtain rfl | rfl : p = 0 ∨ p = 1 := by omega
  · rw [if_neg (by decide)]
    open_payloads
    pointwise [bst, st, upd, roped]
  · rw [if_pos (by decide)]
    open_payloads
    pointwise [bst, st, upd, roped]

end Cert.StatesValue
-- ==== Proof.StatesHost.lean ====
module

public import proofs.«01_k».proof.Proof.Gen.StatesIdeal.Frame
public import proofs.«01_k».proof.Proof.MixValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.StatesValue

open Cert.StatesIdeal Cert.StatesIdeal.Gen
open Cert.MixValue (tile4 rowDecay rowDecay_apply one_block)

variable (m : (ℓ : Loc nD τ sig) → Buf (Elt Ideal) ℓ)

/-! ## The operands the host prepares -/

/-- The logarithm of a direction's decay, by head. -/
abbrev logDecay (g : FVec Ideal S4 .f32) : FVec Ideal S4 .f32 := Cert.MixRefIdeal.Read.val_main_v29 (F := Ideal) g

abbrev gf (c : Dev nD) : FVec Ideal S4 .f32 := m ((c : Thread nD τ).loc main_arg3)

abbrev gb (c : Dev nD) : FVec Ideal S4 .f32 := m ((c : Thread nD τ).loc main_arg4)

/-- The cosine table, repeated for every half of every head of a pair. -/
theorem V_cos (c : Dev nD) (r : Fin 4096) (l : Fin 128) : (V m c main_v31 : FVec Ideal S4096x128 .f32) (ix2 r l) =
    Cert.MixRefIdeal.Read.val_main_v27 (F := Ideal) (ix2 r ⟨l.val % 32, by omega⟩) := by
  refine Eq.trans ?_ (Eq.trans (tile4 (Cert.MixRefIdeal.Read.val_main_v27 (F := Ideal)) (Cert.MixRefIdeal.Read.val_main_v27 (F := Ideal)) r l) ?_)
  · refine congrFun ?_ _
    entry_read
    rfl
  · simp

/-- The sine table, negated on the first half of each head. -/
theorem V_sin (c : Dev nD) (r : Fin 4096) (l : Fin 128) : (V m c main_v36 : FVec Ideal S4096x128 .f32) (ix2 r l) =
    if l.val % 64 < 32 then (- Cert.MixRefIdeal.Read.val_main_v28 (F := Ideal) (ix2 r ⟨l.val % 32, by omega⟩) : EReal)
    else Cert.MixRefIdeal.Read.val_main_v28 (F := Ideal) (ix2 r ⟨l.val % 32, by omega⟩) := by
  refine Eq.trans ?_ (Eq.trans (tile4 (Host.negf (Cert.MixRefIdeal.Read.val_main_v28 (F := Ideal)))
    (Cert.MixRefIdeal.Read.val_main_v28 (F := Ideal)) r l) ?_)
  · refine congrFun ?_ _
    entry_read
    rfl
  · pointwise

theorem V_wkf (c : Dev nD) (p : Fin 2) (i d : Fin 128) : (V m c main_v86 : FVec Ideal S2x128x128 .f32) (ix3 p i d) =
    (Ideal.exp ((Ideal.ofBits FTy.f32 0x42FE0000#32 - (FloatOps.sitofp FTy.f32 (BitVec.ofNat 32 i.val) : Ideal .f32) : EReal) *
      logDecay (gf m c) (ix1 ⟨p.val * 2 + d.val / 64, by omega⟩)) * Ideal.ofBits FTy.f32 0x3E000000#32 : EReal) := by
  refine Eq.trans (b := mulf (rowDecay (subf (broadcastInDim S128 ![] bcast_S_S128 (constant S_ .f32 0x42FE0000#32)) (sitofp .f32 (iotaInDim S128 32 0)))
    (logDecay (gf m c))) (broadcastInDim S2x128x128 ![] bcast_S_S2x128x128 (constant S_ .f32 0x3E000000#32)) (ix3 p i d)) ?_ ?_
  · refine congrFun ?_ _
    entry_read
    rfl
  · pointwise [rowDecay]

theorem V_wkb (c : Dev nD) (p : Fin 2) (i d : Fin 128) : (V m c main_v98 : FVec Ideal S2x128x128 .f32) (ix3 p i d) =
    (Ideal.exp ((FloatOps.sitofp FTy.f32 (BitVec.ofNat 32 i.val) : Ideal .f32) *
      logDecay (gb m c) (ix1 ⟨p.val * 2 + d.val / 64, by omega⟩)) * Ideal.ofBits FTy.f32 0x3E000000#32 : EReal) := by
  refine Eq.trans (b := mulf (rowDecay (sitofp .f32 (iotaInDim S128 32 0))
    (logDecay (gb m c))) (broadcastInDim S2x128x128 ![] bcast_S_S2x128x128 (constant S_ .f32 0x3E000000#32)) (ix3 p i d)) ?_ ?_
  · refine congrFun ?_ _
    entry_read
    rfl
  · pointwise [rowDecay]

/-- The decay over one chunk, laid out over a pair of heads' states. -/
def chunkDecay (g : FVec Ideal S4 .f32) : FVec Ideal S2x128x256 .f32 :=
  broadcastInDim S2x128x256 ![0, 1, 2] bcast_S2x128x1_S2x128x256_0_1_2 (broadcastInDim S2x128x1 ![0, 1] bcast_S2x128_S2x128x1_0_1
    (shapeCast S2x128 (broadcastInDim S2x2x64 ![0, 1] bcast_S2x2_S2x2x64_0_1 (shapeCast S2x2 (Host.exp (mulf
      (broadcastInDim S4 ![] bcast_S_S4 (constant S_ .f32 0x43000000#32)) g)) shapeCasts_S4_S2x2)) shapeCasts_S2x2x64_S2x128))

theorem chunkDecay_apply (g : FVec Ideal S4 .f32) (p : Fin 2) (d : Fin 128) (l : Fin 256) :
    chunkDecay g (ix3 p d l) = Ideal.exp ((Ideal.ofBits FTy.f32 0x43000000#32 : EReal) * g (ix1 ⟨p.val * 2 + d.val / 64, by omega⟩)) := by
  pointwise [chunkDecay]

theorem V_cdf (c : Dev nD) : @Eq (FVec Ideal S2x128x256 .f32) (V m c main_v130) (chunkDecay (logDecay (gf m c))) := by
  entry_read
  rfl

theorem V_cdb (c : Dev nD) : @Eq (FVec Ideal S2x128x256 .f32) (V m c main_v138) (chunkDecay (logDecay (gb m c))) := by
  entry_read
  rfl

/-- The start states of a pair of heads, side by side with zeros off the pair's own blocks. -/
def packedStart (s : FVec Ideal S8x4x64x128 .f32) (e : FVec Ideal S2x2 .f32) : FVec Ideal S8x2x128x256 .f32 :=
  shapeCast S8x2x128x256 (mulf
    (broadcastInDim S8x2x2x64x2x128 ![0, 1, 2, 3, 4, 5] bcast_S8x2x2x64x1x128_S8x2x2x64x2x128_0_1_2_3_4_5
      (shapeCast S8x2x2x64x1x128 s shapeCasts_S8x4x64x128_S8x2x2x64x1x128))
    (broadcastInDim S8x2x2x64x2x128 ![0, 1, 2, 3, 4, 5] bcast_S1x1x2x1x2x1_S8x2x2x64x2x128_0_1_2_3_4_5
      (broadcastInDim S1x1x2x1x2x1 ![2, 3, 4, 5] bcast_S2x1x2x1_S1x1x2x1x2x1_2_3_4_5
        (broadcastInDim S2x1x2x1 ![0, 2] bcast_S2x2_S2x1x2x1_0_2 e))))
    shapeCasts_S8x2x2x64x2x128_S8x2x128x256

/-- The two-by-two unit matrix, as the host counts it out. -/
def eye : FVec Ideal S2x2 .f32 := uitofp .f32 (cmpi .eq
  (addi (iotaInDim S2x2 32 0) (broadcastInDim S2x2 ![] bcast_S_S2x2 (constantI S_ 32 0#32))) (iotaInDim S2x2 32 1))

theorem packedStart_apply (s : FVec Ideal S8x4x64x128 .f32) (b : Fin 8) (p : Fin 2) (d : Fin 128) (l : Fin 256) :
    packedStart s eye (ix4 b p d l) = if d.val / 64 = l.val / 128 then
      s (ix4 b ⟨p.val * 2 + d.val / 64, by omega⟩ ⟨d.val % 64, by omega⟩ ⟨l.val % 128, by omega⟩) else (0 : EReal) := by
  pointwise [packedStart, eye]
  exact one_block _ _ _ (by omega) (by omega)

theorem V_eye (c : Dev nD) : @Eq (FVec Ideal S2x2 .f32) (V m c main_v149) eye := by
  entry_read
  rfl

theorem V_eye' (c : Dev nD) : @Eq (FVec Ideal S2x2 .f32) (V m c main_v162) eye := by
  entry_read
  rfl

theorem V_start (c : Dev nD) : @Eq (FVec Ideal S8x2x128x256 .f32) (V m c main_v155) (packedStart (m ((c : Thread nD τ).loc main_arg1)) eye) := by
  rw [← V_eye m c]
  entry_read
  rfl

theorem V_start' (c : Dev nD) : @Eq (FVec Ideal S8x2x128x256 .f32) (V m c main_v168) (packedStart (m ((c : Thread nD τ).loc main_arg2)) eye) := by
  rw [← V_eye' m c]
  entry_read
  rfl

/-- Division of whole numbers rounding down, as the host spells it. -/
def floorDiv {S : Shape} (h : S_.BroadcastsInDim S (![] : Fin 0 → Fin S.rank)) (x : IVec S 32) (k : BitVec 32) : IVec S 32 :=
  select (andi (cmpi .ne (signi x) (broadcastInDim S ![] h (signi (constantI S_ 32 k))))
    (cmpi .ne (Host.remsi x (broadcastInDim S ![] h (constantI S_ 32 k))) (broadcastInDim S ![] h (constantI S_ 32 0#32))))
    (subi (Host.divsi x (broadcastInDim S ![] h (constantI S_ 32 k))) (broadcastInDim S ![] h (constantI S_ 32 1#32)))
    (Host.divsi x (broadcastInDim S ![] h (constantI S_ 32 k)))

theorem V_rows (c : Dev nD) : @Eq (IVec S128x1 32) (V m c main_v69)
    (floorDiv bcast_S_S128x1 (broadcastInDim S128x1 ![0] bcast_S128_S128x1_0 (iotaInDim S128 32 0)) 64#32) := by
  entry_read
  rfl

theorem V_lanes (c : Dev nD) : @Eq (IVec S1x256 32) (V m c main_v72)
    (floorDiv bcast_S_S1x256 (broadcastInDim S1x256 ![1] bcast_S256_S1x256_1 (iotaInDim S256 32 0)) 128#32) := by
  entry_read
  rfl

theorem rows_apply (d : Fin 128) :
    floorDiv bcast_S_S128x1 (broadcastInDim S128x1 ![0] bcast_S128_S128x1_0 (iotaInDim S128 32 0)) 64#32 (ix2 d 0) = BitVec.ofNat 32 (d.val / 64) := by
  pointwise [floorDiv]
  revert d
  decide +kernel

theorem lanes_apply (l : Fin 256) :
    floorDiv bcast_S_S1x256 (broadcastInDim S1x256 ![1] bcast_S256_S1x256_1 (iotaInDim S256 32 0)) 128#32 (ix2 0 l) = BitVec.ofNat 32 (l.val / 128) := by
  pointwise [floorDiv]
  revert l
  decide +kernel

theorem V_bm (c : Dev nD) (d : Fin 128) (l : Fin 256) : (V m c main_v142 : FVec Ideal S128x256 .f32) (ix2 d l) =
    (if d.val / 64 = l.val / 128 then 1 else 0 : EReal) := by
  refine Eq.trans (b := (uitofp .f32 (cmpi .eq (broadcastInDim S128x256 ![0, 1] bcast_S128x1_S128x256_0_1
    (floorDiv bcast_S_S128x1 (broadcastInDim S128x1 ![0] bcast_S128_S128x1_0 (iotaInDim S128 32 0)) 64#32))
    (broadcastInDim S128x256 ![0, 1] bcast_S1x256_S128x256_0_1
    (floorDiv bcast_S_S1x256 (broadcastInDim S1x256 ![1] bcast_S256_S1x256_1 (iotaInDim S256 32 0)) 128#32))) : FVec Ideal S128x256 .f32) (ix2 d l)) ?_ ?_
  · refine congrFun ?_ _
    entry_read
    rfl
  · generalize hr : floorDiv bcast_S_S128x1 _ _ = r
    generalize hq : floorDiv bcast_S_S1x256 _ _ = q
    have er := rows_apply d
    have eq := lanes_apply l
    rw [hr] at er
    rw [hq] at eq
    pointwise
    rw [er, eq]
    have h1 : d.val / 64 = 0 ∨ d.val / 64 = 1 := by omega
    have h2 : l.val / 128 = 0 ∨ l.val / 128 = 1 := by omega
    rcases h1 with h1 | h1 <;> rcases h2 with h2 | h2 <;> rw [h1, h2] <;> simp [FloatOps.uitofp, IntOp.cmpi]

end Cert.StatesValue
-- ==== Proof.StatesRead.lean ====
module

public import proofs.«01_k».proof.Proof.StatesHost

@[expose] public section

set_option maxRecDepth 16384

noncomputable section

open Idealize.ShloMosaic Idealize.ShloMosaic.TcCoe Idealize.SL.Sem
open Idealize.ShloMosaic.Pipeline (Dat)

namespace Cert.StatesValue

open Cert.StatesIdeal Cert.StatesIdeal.Gen

variable (m : (ℓ : Loc nD τ sig) → Buf (Elt Ideal) ℓ)

/-! ## The blocks a grid point reads and writes -/

/-- The block every window reads or writes at grid point `t`: batch `t / 4`, row tile `t % 4` forward and from the end backward. -/
theorem idx : ∀ t : Fin cfg0.N, win0_0.index t = ![t.val / 4, t.val % 4, 1] ∧ win0_1.index t = ![t.val / 4, t.val % 4, 1]
    ∧ win0_2.index t = ![t.val / 4, 3 - t.val % 4, 1] ∧ win0_3.index t = ![t.val / 4, 3 - t.val % 4, 1]
    ∧ win0_4.index t = ![t.val % 4, 0] ∧ win0_5.index t = ![t.val % 4, 0]
    ∧ win0_6.index t = ![3 - t.val % 4, 0] ∧ win0_7.index t = ![3 - t.val % 4, 0]
    ∧ win0_8.index t = ![0, 0, 0] ∧ win0_9.index t = ![0, 0, 0] ∧ win0_10.index t = ![0, 0, 0] ∧ win0_11.index t = ![0, 0, 0]
    ∧ win0_12.index t = ![0, 0] ∧ win0_13.index t = ![t.val / 4, 0, 0, 0] ∧ win0_14.index t = ![t.val / 4, 0, 0, 0]
    ∧ win0_15.index t = ![t.val / 4, t.val % 4, 0, 0, 0] ∧ win0_16.index t = ![t.val / 4, 3 - t.val % 4, 0, 0, 0]
    ∧ win0_17.index t = ![t.val / 4, 0, 0, 0] ∧ win0_18.index t = ![t.val / 4, 0, 0, 0] :=
  (by decide +kernel : ∀ t : Fin grid0.N, _)

theorem points : cfg0.N = 32 := by decide +kernel

theorem lt_points (t : Fin cfg0.N) : t.val < 32 := lt_of_lt_of_eq t.isLt points

/-- The batch entry of grid point `t`. -/
abbrev batch (t : Fin cfg0.N) : Fin 8 := ⟨t.val / 4, by have := lt_points t; omega⟩

/-- Row `r` of grid point `t`'s tile, in the whole sequence. -/
abbrev row (t : Fin cfg0.N) (r : Fin 1024) : Fin 4096 := ⟨1024 * (t.val % 4) + r.val, by omega⟩

/-- Row `r` of grid point `t`'s tile of the backward direction, in the whole sequence. -/
abbrev brow (t : Fin cfg0.N) (r : Fin 1024) : Fin 4096 := ⟨1024 * (3 - t.val % 4) + r.val, by omega⟩

/-- The packed input array. -/
abbrev zin (c : Dev nD) : FVec Ideal S8x4096x6400 .bf16 := m ((c : Thread nD τ).loc main_arg0)

theorem block0 (c : Dev nD) (t : Fin cfg0.N) (r : Fin 1024) (l : Fin 256) :
    (iblk m c 0 t : FVec Ideal S1x1024x256 .bf16) (ix3 0 r l) = zin m c (ix3 (batch t) (row t r) ⟨256 + l.val, by omega⟩) := by
  blk_ext [iblk, V_main_arg0, idx t]

theorem block1 (c : Dev nD) (t : Fin cfg0.N) (r : Fin 1024) (l : Fin 512) :
    (X0_1 m c t : FVec Ideal S1x1024x512 .bf16) (ix3 0 r l) = zin m c (ix3 (batch t) (row t r) ⟨512 + l.val, by omega⟩) := by
  unfold X0_1 Pipeline.Window.fill
  rw [dif_pos (moved0_1 t _)]
  blk_ext [iblk, V_main_arg0, idx t]

theorem block2 (c : Dev nD) (t : Fin cfg0.N) (r : Fin 1024) (l : Fin 256) :
    (iblk m c 2 t : FVec Ideal S1x1024x256 .bf16) (ix3 0 r l) = zin m c (ix3 (batch t) (brow t r) ⟨256 + l.val, by omega⟩) := by
  blk_ext [iblk, V_main_arg0, idx t]

theorem block3 (c : Dev nD) (t : Fin cfg0.N) (r : Fin 1024) (l : Fin 512) :
    (X0_3 m c t : FVec Ideal S1x1024x512 .bf16) (ix3 0 r l) = zin m c (ix3 (batch t) (brow t r) ⟨512 + l.val, by omega⟩) := by
  unfold X0_3 Pipeline.Window.fill
  rw [dif_pos (moved0_3 t _)]
  blk_ext [iblk, V_main_arg0, idx t]

theorem emb4 (t : Fin cfg0.N) (r : Fin 1024) (l : Fin 128) : ((cfg0.win 4).blk t).view.emb (ix2 r l) = (ix2 (row t r) l : S4096x128.Idx) := by
  blk_ext [idx t]

theorem block4 (c : Dev nD) (t : Fin cfg0.N) (r : Fin 1024) (l : Fin 128) :
    (iblk m c 4 t : FVec Ideal S1024x128 .f32) (ix2 r l) = (V m c main_v31 : FVec Ideal S4096x128 .f32) (ix2 (row t r) l) :=
  congrArg (V m c main_v31 : FVec Ideal S4096x128 .f32) (emb4 t r l)

theorem emb5 (t : Fin cfg0.N) (r : Fin 1024) (l : Fin 128) : ((cfg0.win 5).blk t).view.emb (ix2 r l) = (ix2 (row t r) l : S4096x128.Idx) := by
  blk_ext [idx t]

theorem block5 (c : Dev nD) (t : Fin cfg0.N) (r : Fin 1024) (l : Fin 128) :
    (iblk m c 5 t : FVec Ideal S1024x128 .f32) (ix2 r l) = (V m c main_v36 : FVec Ideal S4096x128 .f32) (ix2 (row t r) l) :=
  congrArg (V m c main_v36 : FVec Ideal S4096x128 .f32) (emb5 t r l)

theorem emb6 (t : Fin cfg0.N) (r : Fin 1024) (l : Fin 128) : ((cfg0.win 6).blk t).view.emb (ix2 r l) = (ix2 (brow t r) l : S4096x128.Idx) := by
  blk_ext [idx t]

theorem block6 (c : Dev nD) (t : Fin cfg0.N) (r : Fin 1024) (l : Fin 128) :
    (iblk m c 6 t : FVec Ideal S1024x128 .f32) (ix2 r l) = (V m c main_v31 : FVec Ideal S4096x128 .f32) (ix2 (brow t r) l) :=
  congrArg (V m c main_v31 : FVec Ideal S4096x128 .f32) (emb6 t r l)

theorem emb7 (t : Fin cfg0.N) (r : Fin 1024) (l : Fin 128) : ((cfg0.win 7).blk t).view.emb (ix2 r l) = (ix2 (brow t r) l : S4096x128.Idx) := by
  blk_ext [idx t]

theorem block7 (c : Dev nD) (t : Fin cfg0.N) (r : Fin 1024) (l : Fin 128) :
    (iblk m c 7 t : FVec Ideal S1024x128 .f32) (ix2 r l) = (V m c main_v36 : FVec Ideal S4096x128 .f32) (ix2 (brow t r) l) :=
  congrArg (V m c main_v36 : FVec Ideal S4096x128 .f32) (emb7 t r l)

theorem emb8 (t : Fin cfg0.N) (j : S2x128x128.Idx) : ((cfg0.win 8).blk t).view.emb j = (j : S2x128x128.Idx) := by
  blk_ext [idx t]

theorem block8 (c : Dev nD) (t : Fin cfg0.N) (j : S2x128x128.Idx) :
    (iblk m c 8 t : FVec Ideal S2x128x128 .f32) j = (V m c main_v86 : FVec Ideal S2x128x128 .f32) j :=
  congrArg (V m c main_v86 : FVec Ideal S2x128x128 .f32) (emb8 t j)

theorem emb9 (t : Fin cfg0.N) (j : S2x128x128.Idx) : ((cfg0.win 9).blk t).view.emb j = (j : S2x128x128.Idx) := by
  blk_ext [idx t]

theorem block9 (c : Dev nD) (t : Fin cfg0.N) (j : S2x128x128.Idx) :
    (iblk m c 9 t : FVec Ideal S2x128x128 .f32) j = (V m c main_v98 : FVec Ideal S2x128x128 .f32) j :=
  congrArg (V m c main_v98 : FVec Ideal S2x128x128 .f32) (emb9 t j)

theorem emb10 (t : Fin cfg0.N) (j : S2x128x256.Idx) : ((cfg0.win 10).blk t).view.emb j = (j : S2x128x256.Idx) := by
  blk_ext [idx t]

theorem block10 (c : Dev nD) (t : Fin cfg0.N) (j : S2x128x256.Idx) :
    (iblk m c 10 t : FVec Ideal S2x128x256 .f32) j = chunkDecay (logDecay (gf m c)) j :=
  (congrArg (V m c main_v130 : FVec Ideal S2x128x256 .f32) (emb10 t j)).trans
    (congrFun (V_cdf m c) j)

theorem emb11 (t : Fin cfg0.N) (j : S2x128x256.Idx) : ((cfg0.win 11).blk t).view.emb j = (j : S2x128x256.Idx) := by
  blk_ext [idx t]

theorem block11 (c : Dev nD) (t : Fin cfg0.N) (j : S2x128x256.Idx) :
    (iblk m c 11 t : FVec Ideal S2x128x256 .f32) j = chunkDecay (logDecay (gb m c)) j :=
  (congrArg (V m c main_v138 : FVec Ideal S2x128x256 .f32) (emb11 t j)).trans
    (congrFun (V_cdb m c) j)

theorem emb12 (t : Fin cfg0.N) (d : Fin 128) (l : Fin 256) : ((cfg0.win 12).blk t).view.emb (ix2 d l) = (ix2 d l : S128x256.Idx) := by
  blk_ext [idx t]

theorem block12 (c : Dev nD) (t : Fin cfg0.N) (d : Fin 128) (l : Fin 256) :
    (iblk m c 12 t : FVec Ideal S128x256 .f32) (ix2 d l) = (if d.val / 64 = l.val / 128 then 1 else 0 : EReal) :=
  (congrArg (V m c main_v142 : FVec Ideal S128x256 .f32) (emb12 t d l)).trans
    (V_bm m c d l)

theorem emb13 (t : Fin cfg0.N) (p : Fin 2) (d : Fin 128) (l : Fin 256) :
    ((cfg0.win 13).blk t).view.emb (ix4 0 p d l) = (ix4 (batch t) p d l : S8x2x128x256.Idx) := by
  blk_ext [idx t]

theorem block13 (c : Dev nD) (t : Fin cfg0.N) (p : Fin 2) (d : Fin 128) (l : Fin 256) :
    (iblk m c 13 t : FVec Ideal S1x2x128x256 .f32) (ix4 0 p d l) =
      packedStart (m ((c : Thread nD τ).loc main_arg1)) eye (ix4 (batch t) p d l) :=
  (congrArg (V m c main_v155 : FVec Ideal S8x2x128x256 .f32)
    (emb13 t p d l)).trans
    (congrFun (V_start m c) _)

theorem emb14 (t : Fin cfg0.N) (p : Fin 2) (d : Fin 128) (l : Fin 256) :
    ((cfg0.win 14).blk t).view.emb (ix4 0 p d l) = (ix4 (batch t) p d l : S8x2x128x256.Idx) := by
  blk_ext [idx t]

theorem block14 (c : Dev nD) (t : Fin cfg0.N) (p : Fin 2) (d : Fin 128) (l : Fin 256) :
    (iblk m c 14 t : FVec Ideal S1x2x128x256 .f32) (ix4 0 p d l) =
      packedStart (m ((c : Thread nD τ).loc main_arg2)) eye (ix4 (batch t) p d l) :=
  (congrArg (V m c main_v168 : FVec Ideal S8x2x128x256 .f32)
    (emb14 t p d l)).trans
    (congrFun (V_start' m c) _)

end Cert.StatesValue
-- ==== Proof.StatesRef.lean ====
module

public import proofs.«01_k».proof.Proof.Gen.StatesRefIdeal.Read
public import proofs.«01_k».proof.Proof.MixRefRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.StatesRefValue

open Cert.StatesRefIdeal Cert.StatesRefIdeal.Read
open Cert.MixRefValue (turned)

variable (x0 : FVec Ideal S8x4096x6400 .bf16) (x1 x2 : FVec Ideal S8x4x64x128 .f32) (x3 x4 : FVec Ideal S4 .f32)

theorem log_fwd : val_main_v57 (F := Ideal) x3 = Cert.MixRefIdeal.Read.val_main_v29 (F := Ideal) x3 := rfl

theorem log_bwd : val_main_v116 (F := Ideal) x4 = Cert.MixRefIdeal.Read.val_main_v29 (F := Ideal) x4 := rfl

theorem key (b : Fin 8) (t : Fin 4096) (h : Fin 4) (d : Fin 64) :
    val_main_v51 (F := Ideal) x0 (ix4 b t h d) = turned x0 256 (by omega) b t h d * Ideal.ofBits .f32 0x3E000000#32 :=
  Eq.trans (b := Cert.MixRefIdeal.Read.val_main_v74 (F := Ideal) x0 (ix4 b t h d)) rfl (Cert.MixRefValue.key x0 b t h d)

/-- A count, as a scalar. -/
abbrev cnt (n : ℕ) : EReal := (FloatOps.sitofp FTy.f32 (BitVec.ofNat 32 n) : Ideal .f32)

theorem dec_fwd (n : Fin 33) (k : Fin 32) (h : Fin 4) : val_main_v92 (F := Ideal) x3 (ix3 n k h) =
    (if 0 ≤ cnt n.val - 1 - cnt k.val then Ideal.exp (Ideal.ofBits .f32 0x43000000#32 * max (cnt n.val - 1 - cnt k.val) 0 * val_main_v57 (F := Ideal) x3 (ix1 h)) else 0 : EReal) := by
  pointwise [val_main_v92, val_main_call1_v0, val_main_call1_v1, val_main_call1_v2, val_main_v91, val_main_v90, val_main_v89, val_main_v88, val_main_v87,
    val_main_v86, val_main_v85, val_main_v84, val_main_v83, val_main_v82, val_main_v81, val_main_v80, val_main_v79, val_main_v66, val_main_v65,
    val_main_v64, val_main_v63, val_main_v62, val_main_v61, val_main_v60, val_main_v56, val_main_v55, val_main_cst_3, val_main_cst_4, val_main_cst_5, val_main_cst_6, val_main_cst_7]
  simp [constant, Ideal.ofBits, Ideal.ieee]

theorem dec_bwd (n : Fin 33) (k : Fin 32) (h : Fin 4) : val_main_v149 (F := Ideal) x4 (ix3 n k h) =
    (if 0 ≤ cnt k.val - cnt n.val then Ideal.exp (Ideal.ofBits .f32 0x43000000#32 * max (cnt k.val - cnt n.val) 0 * val_main_v116 (F := Ideal) x4 (ix1 h)) else 0 : EReal) := by
  pointwise [val_main_v149, val_main_call3_v0, val_main_call3_v1, val_main_call3_v2, val_main_v148, val_main_v147, val_main_v146, val_main_v145, val_main_v144,
    val_main_v143, val_main_v142, val_main_v141, val_main_v140, val_main_v139, val_main_v138, val_main_v137, val_main_v136, val_main_v123, val_main_v122,
    val_main_v121, val_main_v120, val_main_v119, val_main_v56, val_main_v55, val_main_cst_11, val_main_cst_12, val_main_cst_13, val_main_cst_14]
  simp [constant, Ideal.ofBits, Ideal.ieee]

/-- A chunk's own sum of one head, with the weights `w` over the chunk's rows. -/
def own (w : Fin 128 → EReal) (b : Fin 8) (n : Fin 32) (h : Fin 4) (d : Fin 64) (e : Fin 128) : EReal :=
  ∑ j : Fin 128, val_main_v51 (F := Ideal) x0 (ix4 b ⟨n.val * 128 + j.val, by omega⟩ h d) * w j
    * x0 (ix3 b ⟨n.val * 128 + j.val, by omega⟩ ⟨512 + (h.val * 128 + e.val), by omega⟩)

theorem keys_chunked (b : Fin 8) (n : Fin 32) (j : Fin 128) (h : Fin 4) (d : Fin 64) :
    val_main_v67 (F := Ideal) x0 (ix5 b n j h d) = val_main_v51 (F := Ideal) x0 (ix4 b ⟨n.val * 128 + j.val, by omega⟩ h d) := by
  pointwise [val_main_v67]

theorem vals_chunked (b : Fin 8) (n : Fin 32) (j : Fin 128) (h : Fin 4) (e : Fin 128) :
    val_main_v68 (F := Ideal) x0 (ix5 b n j h e) = x0 (ix3 b ⟨n.val * 128 + j.val, by omega⟩ ⟨512 + (h.val * 128 + e.val), by omega⟩) := by
  pointwise [val_main_v68, val_main_v53, val_main_v52, val_main_v0]

theorem wt_fwd (b : Fin 8) (n : Fin 32) (j : Fin 128) (h : Fin 4) (d : Fin 64) : val_main_v76 (F := Ideal) x3 (ix5 b n j h d) =
    (Ideal.exp ((Ideal.ofBits .f32 0x42FE0000#32 - cnt j.val) * val_main_v57 (F := Ideal) x3 (ix1 h)) : EReal) := by
  pointwise [val_main_v76, val_main_v75, val_main_v74, val_main_v73, val_main_v72, val_main_v71, val_main_v70, val_main_v69, val_main_v59, val_main_v58,
    val_main_v54, val_main_cst_2]

theorem upd_fwd (b : Fin 8) (n : Fin 32) (h : Fin 4) (d : Fin 64) (e : Fin 128) : val_main_v78 (F := Ideal) x0 x3 (ix5 b n h d e) =
    own x0 (fun j => Ideal.exp ((Ideal.ofBits .f32 0x42FE0000#32 - cnt j.val) * val_main_v57 (F := Ideal) x3 (ix1 h))) b n h d e := by
  refine (val_main_v78_apply x0 x3 _).trans (Finset.sum_congr rfl fun j _ => ?_)
  have el : lidx_main_v78 (ix5 b n h d e) j = ix5 b n j h d := by funext a; fin_cases a <;> rfl
  have er : ridx_main_v78 (ix5 b n h d e) j = ix5 b n j h e := by funext a; fin_cases a <;> rfl
  rw [el, er, vals_chunked, val_main_v77_apply, keys_chunked, wt_fwd]
  rfl

theorem wt_bwd (b : Fin 8) (n : Fin 32) (j : Fin 128) (h : Fin 4) (d : Fin 64) : val_main_v133 (F := Ideal) x4 (ix5 b n j h d) =
    (Ideal.exp (cnt j.val * val_main_v116 (F := Ideal) x4 (ix1 h)) : EReal) := by
  pointwise [val_main_v133, val_main_v132, val_main_v131, val_main_v130, val_main_v129, val_main_v128, val_main_v127, val_main_v126, val_main_v54]

theorem upd_bwd (b : Fin 8) (n : Fin 32) (h : Fin 4) (d : Fin 64) (e : Fin 128) : val_main_v135 (F := Ideal) x0 x4 (ix5 b n h d e) =
    own x0 (fun j => Ideal.exp (cnt j.val * val_main_v116 (F := Ideal) x4 (ix1 h))) b n h d e := by
  refine (val_main_v135_apply x0 x4 _).trans (Finset.sum_congr rfl fun j _ => ?_)
  have el : lidx_main_v135 (ix5 b n h d e) j = ix5 b n j h d := by funext a; fin_cases a <;> rfl
  have er : ridx_main_v135 (ix5 b n h d e) j = ix5 b n j h e := by funext a; fin_cases a <;> rfl
  have ek : val_main_v124 (F := Ideal) x0 = val_main_v67 (F := Ideal) x0 := by unfold val_main_v124 val_main_v67; rfl
  have ev : val_main_v125 (F := Ideal) x0 = val_main_v68 (F := Ideal) x0 := by unfold val_main_v125 val_main_v68; rfl
  rw [el, er, val_main_v134_apply, ek, ev, vals_chunked, keys_chunked, wt_bwd]
  rfl

theorem state_fwd (b : Fin 8) (n : Fin 33) (h : Fin 4) (d : Fin 64) (e : Fin 128) : val_main_v108 (F := Ideal) x0 x1 x3 (ix5 b n h d e) =
    (Ideal.exp (Ideal.ofBits .f32 0x43000000#32 * cnt n.val * val_main_v57 (F := Ideal) x3 (ix1 h)) * x1 (ix4 b h d e) +
      ∑ k : Fin 32, val_main_v78 (F := Ideal) x0 x3 (ix5 b k h d e) * val_main_v92 (F := Ideal) x3 (ix3 n k h) : EReal) := by
  pointwise [val_main_v108, val_main_v107, val_main_v106, val_main_v105, val_main_v104, val_main_v103, val_main_v102, val_main_v101, val_main_v100,
    val_main_v99, val_main_v98, val_main_v97, val_main_v96, val_main_v95, val_main_v94, val_main_v93, val_main_v55, val_main_cst_8]

theorem state_bwd (b : Fin 8) (n : Fin 33) (h : Fin 4) (d : Fin 64) (e : Fin 128) : val_main_v165 (F := Ideal) x0 x2 x4 (ix5 b n h d e) =
    (Ideal.exp (Ideal.ofBits .f32 0x43000000#32 * (Ideal.ofBits .f32 0x42000000#32 - cnt n.val) * val_main_v116 (F := Ideal) x4 (ix1 h)) * x2 (ix4 b h d e) +
      ∑ k : Fin 32, val_main_v135 (F := Ideal) x0 x4 (ix5 b k h d e) * val_main_v149 (F := Ideal) x4 (ix3 n k h) : EReal) := by
  pointwise [val_main_v165, val_main_v164, val_main_v163, val_main_v162, val_main_v161, val_main_v160, val_main_v159, val_main_v158, val_main_v157,
    val_main_v156, val_main_v155, val_main_v154, val_main_v153, val_main_v152, val_main_v151, val_main_v150, val_main_v118, val_main_v117, val_main_v55, val_main_cst_10, val_main_cst_15]

theorem placed (f : Fin 4 → Fin 64 → Fin 128 → EReal) (p : Fin 2) (d : Fin 128) (l : Fin 256) :
    (if h : d.val < 64 then if h_1 : l.val < 128 then f ⟨2 * p.val, by omega⟩ ⟨d.val, h⟩ ⟨l.val, h_1⟩ else 0
      else if h_1 : l.val < 128 then 0 else f ⟨1 + 2 * p.val, by omega⟩ ⟨d.val - 64, by omega⟩ ⟨l.val - 128, by omega⟩ : EReal)
      = if d.val / 64 = l.val / 128 then f ⟨p.val * 2 + d.val / 64, by omega⟩ ⟨d.val % 64, by omega⟩ ⟨l.val % 128, by omega⟩ else 0 := by
  have hd := d.isLt
  have hl := l.isLt
  by_cases h1 : d.val < 64 <;> by_cases h2 : l.val < 128
  · rw [dif_pos h1, dif_pos h2, if_pos (by omega)]
    congr 1 <;> exact Fin.ext (by dsimp only; omega)
  · rw [dif_pos h1, dif_neg h2, if_neg (by omega)]
  · rw [dif_neg h1, dif_pos h2, if_neg (by omega)]
  · rw [dif_neg h1, dif_neg h2, if_pos (by omega)]
    congr 1 <;> exact Fin.ext (by dsimp only; omega)

theorem pairs_fwd (b : Fin 8) (n : Fin 33) (p : Fin 2) (d : Fin 128) (l : Fin 256) : val_main_v115 (F := Ideal) x0 x1 x3 (ix5 b n p d l) =
    if d.val / 64 = l.val / 128 then
      val_main_v108 (F := Ideal) x0 x1 x3 (ix5 b n ⟨p.val * 2 + d.val / 64, by omega⟩ ⟨d.val % 64, by omega⟩ ⟨l.val % 128, by omega⟩) else (0 : EReal) := by
  pointwise [val_main_v115, val_main_v114, val_main_v113, val_main_v112, val_main_v111, val_main_v110, val_main_cst_9]
  exact placed (fun h d e => val_main_v108 (F := Ideal) x0 x1 x3 (ix5 b n h d e)) p d l

theorem pairs_bwd (b : Fin 8) (n : Fin 33) (p : Fin 2) (d : Fin 128) (l : Fin 256) : val_main_v172 (F := Ideal) x0 x2 x4 (ix5 b n p d l) =
    if d.val / 64 = l.val / 128 then
      val_main_v165 (F := Ideal) x0 x2 x4 (ix5 b n ⟨p.val * 2 + d.val / 64, by omega⟩ ⟨d.val % 64, by omega⟩ ⟨l.val % 128, by omega⟩) else (0 : EReal) := by
  pointwise [val_main_v172, val_main_v171, val_main_v170, val_main_v169, val_main_v168, val_main_v167, val_main_cst_16]
  exact placed (fun h d e => val_main_v165 (F := Ideal) x0 x2 x4 (ix5 b n h d e)) p d l

theorem res_fwd (b : Fin 8) (n : Fin 32) (p : Fin 2) (d : Fin 128) (l : Fin 256) : val_main_v174 (F := Ideal) x0 x1 x3 (ix5 b n p d l) =
    val_main_v115 (F := Ideal) x0 x1 x3 (ix5 b ⟨n.val, by omega⟩ p d l) := by
  pointwise [val_main_v174, val_main_v173]

theorem res_bwd (b : Fin 8) (n : Fin 32) (p : Fin 2) (d : Fin 128) (l : Fin 256) : val_main_v176 (F := Ideal) x0 x2 x4 (ix5 b n p d l) =
    val_main_v172 (F := Ideal) x0 x2 x4 (ix5 b ⟨1 + n.val, by omega⟩ p d l) := by
  pointwise [val_main_v176, val_main_v175]

theorem end_fwd (b : Fin 8) (p : Fin 2) (d : Fin 128) (l : Fin 256) : val_main_v178 (F := Ideal) x0 x1 x3 (ix4 b p d l) =
    val_main_v115 (F := Ideal) x0 x1 x3 (ix5 b 32 p d l) := by
  pointwise [val_main_v178, val_main_v177]

theorem end_bwd (b : Fin 8) (p : Fin 2) (d : Fin 128) (l : Fin 256) : val_main_v180 (F := Ideal) x0 x2 x4 (ix4 b p d l) =
    val_main_v172 (F := Ideal) x0 x2 x4 (ix5 b 0 p d l) := by
  pointwise [val_main_v180, val_main_v179]

end Cert.StatesRefValue
-- ==== Proof.StatesSum.lean ====
module

public import proofs.«01_k».proof.Proof.MixSum
public import Idealize.ShloMosaic.Lib.Pipeline.ValueKit
public import Idealize.ShloMosaic.Lib.Pointwise

@[expose] public section

noncomputable section

open Idealize.ShloMosaic

namespace Cert.StatesSum

theorem exp_nonneg (x : EReal) : 0 ≤ Ideal.exp x := by
  induction x with
  | bot => exact le_refl _
  | top => exact le_top
  | coe r => exact EReal.coe_nonneg.mpr (Real.exp_pos r).le

theorem exp_ne_top (x : EReal) (h : x ≠ ⊤) : Ideal.exp x ≠ ⊤ := by
  induction x with
  | bot => exact EReal.zero_ne_top
  | top => exact absurd rfl h
  | coe r => exact EReal.coe_ne_top _

/-- The decay over `n` chunks, the logarithm of the decay over a row being `g`. -/
def decay (g : EReal) (n : ℕ) : EReal := Ideal.exp (((128 * (n : ℝ) : ℝ) : EReal) * g)

theorem decay_zero (g : EReal) : decay g 0 = 1 := by
  unfold decay
  rw [Nat.cast_zero, mul_zero, EReal.coe_zero, zero_mul]
  show ((Real.exp 0 : ℝ) : EReal) = 1
  rw [Real.exp_zero, EReal.coe_one]

theorem decay_succ (g : EReal) (hg : g ≠ ⊤) (n : ℕ) : decay g 1 * decay g n = decay g (n + 1) := by
  unfold decay
  induction g with
  | bot =>
    have h1 : (0 : ℝ) < 128 * ((1 : ℕ) : ℝ) := by norm_num
    have h2 : (0 : ℝ) < 128 * ((n + 1 : ℕ) : ℝ) := by positivity
    rw [EReal.coe_mul_bot_of_pos h1, EReal.coe_mul_bot_of_pos h2]
    exact zero_mul _
  | top => exact absurd rfl hg
  | coe r =>
    rw [← EReal.coe_mul, ← EReal.coe_mul, ← EReal.coe_mul]
    show ((Real.exp _ : ℝ) : EReal) * ((Real.exp _ : ℝ) : EReal) = ((Real.exp _ : ℝ) : EReal)
    rw [← EReal.coe_mul, ← Real.exp_add]
    congr 2
    push_cast
    ring

theorem decay_ne_top (g : EReal) (hg : g ≠ ⊤) (n : ℕ) : decay g n ≠ ⊤ := by
  refine exp_ne_top _ ?_
  induction g with
  | bot =>
    rcases Nat.eq_zero_or_pos n with rfl | hn
    · rw [Nat.cast_zero, mul_zero, EReal.coe_zero, zero_mul]
      exact EReal.zero_ne_top
    · rw [EReal.coe_mul_bot_of_pos (by positivity)]
      exact bot_ne_top
  | top => exact absurd rfl hg
  | coe r =>
    rw [← EReal.coe_mul]
    exact EReal.coe_ne_top _

/-- A state that decays by `a` at each step and gains `u` of the step. -/
def run (a : EReal) (u : ℕ → EReal) (s : EReal) : ℕ → EReal
  | 0 => s
  | n + 1 => a * run a u s n + u n

theorem run_zero (a : EReal) (n : ℕ) : run a (fun _ => 0) 0 n = 0 := by
  induction n with
  | zero => rfl
  | succ n ih => rw [run, ih, mul_zero, add_zero]

/-- The state after `n` steps, in closed form. -/
theorem run_closed (g : EReal) (hg : g ≠ ⊤) (u : ℕ → EReal) (s : EReal) (n : ℕ) (hn : n ≤ 32) :
    run (decay g 1) u s n = decay g n * s + ∑ k : Fin 32, u k.val * (if k.val < n then decay g (n - 1 - k.val) else 0) := by
  induction n with
  | zero => simp [run, decay_zero]
  | succ n ih =>
    have h0 : 0 ≤ decay g 1 := exp_nonneg _
    have ht : decay g 1 ≠ ⊤ := decay_ne_top g hg 1
    have hs : ∀ k : Fin 32, u k.val * (if k.val < n + 1 then decay g (n + 1 - 1 - k.val) else 0)
        = u k.val * (if k.val < n then decay g (n - 1 - k.val) else 0) * decay g 1 + (if k = ⟨n, by omega⟩ then u n else 0) := by
      intro k
      rcases Nat.lt_trichotomy k.val n with h | h | h
      · rw [if_pos (by omega), if_pos h, if_neg (fun hh => by rw [hh] at h; exact lt_irrefl _ h), add_zero, mul_assoc, mul_comm _ (decay g 1),
          decay_succ g hg, show n - 1 - k.val + 1 = n + 1 - 1 - k.val by omega]
      · rw [if_pos (by omega), if_neg (by omega), if_pos (Fin.ext h), mul_zero, zero_mul, zero_add, show n + 1 - 1 - k.val = 0 by omega,
          decay_zero, mul_one, h]
      · rw [if_neg (by omega), if_neg (by omega), if_neg (fun hh => by rw [hh] at h; exact lt_irrefl _ h), mul_zero, zero_mul, zero_add]
    rw [run, ih (by omega), EReal.left_distrib_of_nonneg_of_ne_top h0 ht, ← mul_assoc, decay_succ g hg, Finset.sum_congr rfl fun k _ => hs k,
      Finset.sum_add_distrib, Cert.MixSum.sum_mul_const _ _ h0 ht, mul_comm (decay g 1), Finset.sum_ite_eq', if_pos (Finset.mem_univ _), add_assoc]

/-- The same with the steps counted from the last. -/
theorem run_closed_rev (g : EReal) (hg : g ≠ ⊤) (u : ℕ → EReal) (s : EReal) (n : ℕ) (hn : n ≤ 32) :
    run (decay g 1) (fun k => u (31 - k)) s (32 - n) =
      decay g (32 - n) * s + ∑ k : Fin 32, u k.val * (if n ≤ k.val then decay g (k.val - n) else 0) := by
  rw [run_closed g hg _ s (32 - n) (by omega), ← Equiv.sum_comp Fin.revPerm]
  congr 1
  refine Finset.sum_congr rfl fun k _ => ?_
  have hk : (Fin.revPerm k).val = 31 - k.val := by
    rw [Fin.revPerm_apply, Fin.val_rev]
    omega
  rw [hk, show 31 - (31 - k.val) = k.val by omega]
  by_cases h : n ≤ k.val
  · rw [if_pos h, if_pos (by omega), show 32 - n - 1 - (31 - k.val) = k.val - n by omega]
  · rw [if_neg h, if_neg (by omega)]

/-- A count below 64, as the integer converted to a real. -/
theorem count (n : ℕ) (hn : n < 64) : (FloatOps.sitofp FTy.f32 (BitVec.ofNat 32 n) : Ideal .f32) = ((n : ℝ) : EReal) := by
  have h : (BitVec.ofNat 32 n).toInt = (n : ℤ) := (by decide : ∀ i : Fin 64, (BitVec.ofNat 32 i.val).toInt = (i.val : ℤ)) ⟨n, hn⟩
  simp only [FloatOps.sitofp, h]
  simp

theorem bits_32 : Ideal.ofBits FTy.f32 0x42000000#32 = ((32 : ℝ) : EReal) := by
  simp [Ideal.ofBits, Ideal.ieee]
  rw [← EReal.coe_mul]
  norm_num

/-- The reference's decay over a masked number of chunks. -/
theorem masked (g : EReal) (x : EReal) (a b : ℕ) (hx : x = (((a : ℝ) - (b : ℝ) : ℝ) : EReal)) :
    (if 0 ≤ x then Ideal.exp (Ideal.ofBits FTy.f32 0x43000000#32 * max x 0 * g) else 0) = if b ≤ a then decay g (a - b) else 0 := by
  subst hx
  by_cases h : b ≤ a
  · have h0 : (0 : EReal) ≤ (((a : ℝ) - (b : ℝ) : ℝ) : EReal) := EReal.coe_nonneg.mpr (sub_nonneg.mpr (Nat.cast_le.mpr h))
    rw [if_pos h0, if_pos h, max_eq_left h0, Cert.MixSum.bits_128, ← EReal.coe_mul, decay, Nat.cast_sub h]
  · have h0 : ¬ (0 : EReal) ≤ (((a : ℝ) - (b : ℝ) : ℝ) : EReal) := by
      rw [EReal.coe_nonneg, sub_nonneg, Nat.cast_le]
      exact h
    rw [if_neg h0, if_neg h]

theorem started (g : EReal) (x : EReal) (a : ℕ) (hx : x = ((a : ℝ) : EReal)) :
    Ideal.exp (Ideal.ofBits FTy.f32 0x43000000#32 * x * g) = decay g a := by
  rw [hx, Cert.MixSum.bits_128, ← EReal.coe_mul, decay]

/-- The logarithm of a decay is not above zero. -/
theorem log1p_nonneg (x : EReal) (hx : 0 ≤ x) : 0 ≤ Ideal.log1p x := by
  unfold Ideal.log1p
  induction x with
  | bot => exact absurd hx (by decide)
  | top =>
    show (0 : EReal) ≤ Ideal.log (1 + ⊤)
    rw [EReal.add_top_of_ne_bot (by decide)]
    exact le_top
  | coe r =>
    have hr : 0 ≤ r := EReal.coe_nonneg.mp hx
    rw [← EReal.coe_one, ← EReal.coe_add]
    show (0 : EReal) ≤ if 1 + r ≤ 0 then ⊥ else ((Real.log (1 + r) : ℝ) : EReal)
    rw [if_neg (by linarith)]
    exact EReal.coe_nonneg.mpr (Real.log_nonneg (by linarith))

end Cert.StatesSum
-- ==== Proof.StatesLink.lean ====
module

public import proofs.«01_k».proof.Proof.StatesBlock
public import proofs.«01_k».proof.Proof.StatesHost
public import proofs.«01_k».proof.Proof.StatesRef
public import proofs.«01_k».proof.Proof.StatesSum
public import proofs.«01_k».proof.Proof.MixValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.StatesValue

open Cert.StatesIdeal Cert.StatesIdeal.Gen
open Cert.MixValue (roped roped_turned)
open Cert.MixRefValue (turned)
open Cert.StatesRefValue (own cnt)
open Cert.StatesSum (run decay run_closed run_closed_rev run_zero masked started bits_32 log1p_nonneg exp_nonneg)

section
open Cert.MixRefIdeal.Read

/-- The logarithm of a decay, a negated sum of two terms not below zero, is never infinite from above. -/
theorem log_ne_top (g : FVec Ideal S4 .f32) (h : Fin 4) : (logDecay g (ix1 h) : EReal) ≠ ⊤ := by
  have e : (logDecay g (ix1 h) : EReal) = -(max (-g (ix1 h)) 0 + Ideal.log1p (Ideal.exp (-FloatOps.absf (-g (ix1 h))))) := by
    pointwise [logDecay, val_main_v29, val_main_call0_v1, val_main_call0_v0, val_main_call0_call0_v11, val_main_call0_call0_v10, val_main_call0_call0_v9,
      val_main_call0_call0_v8, val_main_call0_call0_v7, val_main_call0_call0_v6, val_main_call0_call0_v5, val_main_call0_call0_v4, val_main_call0_call0_v3,
      val_main_call0_call0_v2, val_main_call0_call0_v1, val_main_call0_call0_v0, val_main_call0_call0_cst]
    exact congrArg _ (if_neg fun h => h rfl)
  have h0 : (0 : EReal) ≤ max (-g (ix1 h)) 0 + Ideal.log1p (Ideal.exp (-FloatOps.absf (-g (ix1 h)))) :=
    add_nonneg (le_max_right _ _) (log1p_nonneg _ (exp_nonneg _))
  rw [e]
  intro ht
  rw [EReal.neg_eq_top_iff] at ht
  rw [ht] at h0
  exact absurd h0 (by decide)

end

/-- The steps of a tile continue the run over all chunks. -/
theorem st_run (a b : EReal) (u : Fin 8 → EReal) (U : ℕ → EReal) (s₀ s : EReal) (T : ℕ) (hs : s = run a U s₀ (8 * T))
    (hu : ∀ n : Fin 8, b * u n = U (8 * T + n.val)) (n : ℕ) (h : n ≤ 8) : st a b u s n h = run a U s₀ (8 * T + n) := by
  induction n with
  | zero => exact hs
  | succ n ih =>
    show a * st a b u s n _ + b * u ⟨n, h⟩ = a * run a U s₀ (8 * T + n) + U (8 * T + n)
    rw [ih, hu]

/-- The sum a chunk adds to a pair of heads' state at a lane pair: the head's own on its block, nothing off it. -/
def added (z : FVec Ideal S8x4096x6400 .bf16) (w : Fin 4 → Fin 128 → EReal) (b : Fin 8) (p : Fin 2) (d : Fin 128) (l : Fin 256) (N : ℕ) : EReal :=
  if d.val / 64 = l.val / 128 then
    own z (w ⟨p.val * 2 + d.val / 64, by omega⟩) b ⟨N % 32, by omega⟩ ⟨p.val * 2 + d.val / 64, by omega⟩ ⟨d.val % 64, by omega⟩ ⟨l.val % 128, by omega⟩
  else 0

theorem roped_lane (x : FVec Ideal S1x1024x256 .bf16) (cos sin : FVec Ideal S1024x128 .f32) (z : FVec Ideal S8x4096x6400 .bf16)
    (b : Fin 8) (t : Fin 4096) (r : Fin 1024)
    (hx : ∀ l : Fin 256, x (ix3 0 r l) = z (ix3 b t ⟨256 + l.val, by omega⟩))
    (hcos : ∀ l : Fin 128, cos (ix2 r l) = Cert.MixRefIdeal.Read.val_main_v27 (F := Ideal) (ix2 t ⟨l.val % 32, by omega⟩))
    (hsin : ∀ l : Fin 128, sin (ix2 r l) =
      if l.val % 64 < 32 then (- Cert.MixRefIdeal.Read.val_main_v28 (F := Ideal) (ix2 t ⟨l.val % 32, by omega⟩) : EReal)
      else Cert.MixRefIdeal.Read.val_main_v28 (F := Ideal) (ix2 t ⟨l.val % 32, by omega⟩))
    (p : Fin 2) (d : Fin 128) :
    roped x cos sin r p d = turned z 256 (by omega) b t ⟨p.val * 2 + d.val / 64, by omega⟩ ⟨d.val % 64, by omega⟩ := by
  refine Eq.trans ?_ (roped_turned x cos sin z 256 (by omega) b t r hx hcos hsin ⟨p.val * 2 + d.val / 64, by omega⟩ ⟨d.val % 64, by omega⟩)
  congr 1 <;> exact Fin.ext (by dsimp only; omega)

/-- What the kernel adds at a chunk is the reference's sum of the chunk. -/
theorem upd_added (x0 : FVec Ideal S1x1024x256 .bf16) (x1 : FVec Ideal S1x1024x512 .bf16) (cos sin : FVec Ideal S1024x128 .f32)
    (wk : FVec Ideal S2x128x128 .f32) (bm : FVec Ideal S128x256 .f32) (z : FVec Ideal S8x4096x6400 .bf16) (w : Fin 4 → Fin 128 → EReal) (b : Fin 8) (T : Fin 4)
    (hx0 : ∀ (r : Fin 1024) (l : Fin 256), x0 (ix3 0 r l) = z (ix3 b ⟨1024 * T.val + r.val, by omega⟩ ⟨256 + l.val, by omega⟩))
    (hx1 : ∀ (r : Fin 1024) (l : Fin 512), x1 (ix3 0 r l) = z (ix3 b ⟨1024 * T.val + r.val, by omega⟩ ⟨512 + l.val, by omega⟩))
    (hcos : ∀ (r : Fin 1024) (l : Fin 128), cos (ix2 r l) =
      Cert.MixRefIdeal.Read.val_main_v27 (F := Ideal) (ix2 ⟨1024 * T.val + r.val, by omega⟩ ⟨l.val % 32, by omega⟩))
    (hsin : ∀ (r : Fin 1024) (l : Fin 128), sin (ix2 r l) =
      if l.val % 64 < 32 then (- Cert.MixRefIdeal.Read.val_main_v28 (F := Ideal) (ix2 ⟨1024 * T.val + r.val, by omega⟩ ⟨l.val % 32, by omega⟩) : EReal)
      else Cert.MixRefIdeal.Read.val_main_v28 (F := Ideal) (ix2 ⟨1024 * T.val + r.val, by omega⟩ ⟨l.val % 32, by omega⟩))
    (hw : ∀ (p : Fin 2) (j d : Fin 128), wk (ix3 p j d) = (w ⟨p.val * 2 + d.val / 64, by omega⟩ j * Ideal.ofBits FTy.f32 0x3E000000#32 : EReal))
    (hbm : ∀ (d : Fin 128) (l : Fin 256), bm (ix2 d l) = (if d.val / 64 = l.val / 128 then 1 else 0 : EReal))
    (p : Fin 2) (d : Fin 128) (l : Fin 256) (n : Fin 8) :
    (bm (ix2 d l) * upd x0 x1 cos sin wk p d l n : EReal) = added z w b p d l (8 * T.val + n.val) := by
  rw [hbm]
  unfold added
  by_cases hdl : d.val / 64 = l.val / 128
  · rw [if_pos hdl, if_pos hdl, one_mul]
    unfold upd own
    refine Finset.sum_congr rfl fun j _ => ?_
    rw [roped_lane x0 cos sin z b ⟨1024 * T.val + (128 * n.val + j.val), by omega⟩ ⟨128 * n.val + j.val, by omega⟩
      (fun l => hx0 _ l) (fun l => hcos _ l) (fun l => hsin _ l), hw, hx1, Cert.StatesRefValue.key]
    have er : (⟨1024 * T.val + (128 * n.val + j.val), by omega⟩ : Fin 4096) = ⟨(8 * T.val + n.val) % 32 * 128 + j.val, by omega⟩ :=
      Fin.ext (by dsimp only; omega)
    have ec : (⟨512 + (256 * p.val + l.val), by omega⟩ : Fin 6400) = ⟨512 + ((p.val * 2 + d.val / 64) * 128 + l.val % 128), by omega⟩ :=
      Fin.ext (by dsimp only; omega)
    rw [er, ec, mul_comm (w _ _), ← mul_assoc]
  · rw [if_neg hdl, if_neg hdl, zero_mul]

theorem decay_one (g : FVec Ideal S4 .f32) (p : Fin 2) (d : Fin 128) (l : Fin 256) :
    chunkDecay g (ix3 p d l) = decay (g (ix1 ⟨p.val * 2 + d.val / 64, by omega⟩)) 1 := by
  rw [chunkDecay_apply, decay, Nat.cast_one, mul_one, ← Cert.MixSum.bits_128]

/-- The weights of a chunk's rows, forward. -/
def wF (g : FVec Ideal S4 .f32) (h : Fin 4) (j : Fin 128) : EReal :=
  Ideal.exp ((Ideal.ofBits FTy.f32 0x42FE0000#32 - cnt j.val) * logDecay g (ix1 h))

/-- The weights of a chunk's rows, backward. -/
def wB (g : FVec Ideal S4 .f32) (h : Fin 4) (j : Fin 128) : EReal := Ideal.exp (cnt j.val * logDecay g (ix1 h))

/-- The forward states after `N` chunks. -/
def runF (z : FVec Ideal S8x4096x6400 .bf16) (s : FVec Ideal S8x4x64x128 .f32) (g : FVec Ideal S4 .f32) (b : Fin 8) (p : Fin 2) (d : Fin 128) (l : Fin 256) :
    ℕ → EReal :=
  run (decay (logDecay g (ix1 ⟨p.val * 2 + d.val / 64, by omega⟩)) 1) (added z (wF g) b p d l) (packedStart s eye (ix4 b p d l))

/-- The backward states after `N` chunks from the end. -/
def runB (z : FVec Ideal S8x4096x6400 .bf16) (s : FVec Ideal S8x4x64x128 .f32) (g : FVec Ideal S4 .f32) (b : Fin 8) (p : Fin 2) (d : Fin 128) (l : Fin 256) :
    ℕ → EReal :=
  run (decay (logDecay g (ix1 ⟨p.val * 2 + d.val / 64, by omega⟩)) 1) (fun k => added z (wB g) b p d l (31 - k)) (packedStart s eye (ix4 b p d l))

theorem cnt_eq (n : ℕ) (hn : n < 64) : cnt n = ((n : ℝ) : EReal) := StatesSum.count n hn

open Cert.StatesRefIdeal.Read in
theorem ref_fwd (z : FVec Ideal S8x4096x6400 .bf16) (s : FVec Ideal S8x4x64x128 .f32) (g : FVec Ideal S4 .f32) (b : Fin 8) (N : Fin 33)
    (p : Fin 2) (d : Fin 128) (l : Fin 256) : val_main_v115 (F := Ideal) z s g (ix5 b N p d l) = runF z s g b p d l N.val := by
  rw [Cert.StatesRefValue.pairs_fwd, runF, packedStart_apply]
  by_cases hdl : d.val / 64 = l.val / 128
  · rw [if_pos hdl, if_pos hdl, run_closed _ (log_ne_top g _) _ _ _ (by omega), Cert.StatesRefValue.state_fwd, Cert.StatesRefValue.log_fwd,
      started _ _ N.val (cnt_eq _ (by omega))]
    refine congrArg₂ (· + ·) rfl (Finset.sum_congr rfl fun k _ => congrArg₂ (· * ·) ?_ ?_)
    · rw [Cert.StatesRefValue.upd_fwd, Cert.StatesRefValue.log_fwd, added, if_pos hdl]
      have ek : (⟨k.val % 32, by omega⟩ : Fin 32) = k := Fin.ext (by dsimp only; omega)
      rw [ek]
      rfl
    · rw [Cert.StatesRefValue.dec_fwd, Cert.StatesRefValue.log_fwd, masked _ _ N.val (k.val + 1) (by
        rw [cnt_eq _ (by omega), cnt_eq _ (by omega), ← EReal.coe_one, ← EReal.coe_sub, ← EReal.coe_sub]
        congr 1
        push_cast
        ring)]
      have e1 : N.val - (k.val + 1) = N.val - 1 - k.val := by omega
      rw [e1]
      rfl
  · rw [if_neg hdl, if_neg hdl]
    have e : added z (wF g) b p d l = fun _ => 0 := funext fun _ => if_neg hdl
    rw [e, run_zero]

open Cert.StatesRefIdeal.Read in
theorem ref_bwd (z : FVec Ideal S8x4096x6400 .bf16) (s : FVec Ideal S8x4x64x128 .f32) (g : FVec Ideal S4 .f32) (b : Fin 8) (N : Fin 33)
    (p : Fin 2) (d : Fin 128) (l : Fin 256) : val_main_v172 (F := Ideal) z s g (ix5 b N p d l) = runB z s g b p d l (32 - N.val) := by
  rw [Cert.StatesRefValue.pairs_bwd, runB, packedStart_apply]
  by_cases hdl : d.val / 64 = l.val / 128
  · rw [if_pos hdl, if_pos hdl, run_closed_rev _ (log_ne_top g _) _ _ _ (by omega), Cert.StatesRefValue.state_bwd, Cert.StatesRefValue.log_bwd,
      started _ _ (32 - N.val) (by
        rw [cnt_eq _ (by omega), bits_32, ← EReal.coe_sub, Nat.cast_sub (by omega)]
        norm_num)]
    refine congrArg₂ (· + ·) rfl (Finset.sum_congr rfl fun k _ => congrArg₂ (· * ·) ?_ ?_)
    · rw [Cert.StatesRefValue.upd_bwd, Cert.StatesRefValue.log_bwd, added, if_pos hdl]
      have ek : (⟨k.val % 32, by omega⟩ : Fin 32) = k := Fin.ext (by dsimp only; omega)
      rw [ek]
      rfl
    · rw [Cert.StatesRefValue.dec_bwd, Cert.StatesRefValue.log_bwd, masked _ _ k.val N.val (by
        rw [cnt_eq _ (by omega), cnt_eq _ (by omega), ← EReal.coe_sub])]
  · rw [if_neg hdl, if_neg hdl]
    have e : (fun k => added z (wB g) b p d l (31 - k)) = fun _ => 0 := funext fun _ => if_neg hdl
    rw [e, run_zero]

end Cert.StatesValue
-- ==== Proof.StatesFinal.lean ====
module

public import proofs.«01_k».proof.Proof.StatesFwd
public import proofs.«01_k».proof.Proof.StatesBwd
public import proofs.«01_k».proof.Proof.StatesRead
public import proofs.«01_k».proof.Proof.StatesLink
public import proofs.«01_k».proof.Proof.Gen.StatesIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StatesValue

open Cert.StatesIdeal Cert.StatesIdeal.Gen Cert.StatesIdeal.Value
open Cert.StatesRefIdeal.Read (val_main_v174 val_main_v176 val_main_v178 val_main_v180)

variable (m : (ℓ : Loc nD τ sig) → Buf (Elt Ideal) ℓ) (c : Dev nD) (t : Fin cfg0.N)

abbrev sf : FVec Ideal S8x4x64x128 .f32 := m ((c : Thread nD τ).loc main_arg1)

abbrev sb : FVec Ideal S8x4x64x128 .f32 := m ((c : Thread nD τ).loc main_arg2)

/-- The mask of a pair's two diagonal blocks, as the kernel is given it. -/
abbrev diag (d : Fin 128) (l : Fin 256) : EReal := (iblk m c 12 t : FVec Ideal S128x256 .f32) (ix2 d l)

/-- A tile's states over its eight chunks, forward; -/
theorem fst_steps (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32)
    (p : Fin 2) (d : Fin 128) (l : Fin 256) (a s₀ : EReal) (U : ℕ → EReal) (T : ℕ) (ha : cd (ix3 p d l) = a)
    (hs : s (ix3 p d l) = StatesSum.run a U s₀ (8 * T))
    (hu : ∀ n : Fin 8, (bm (ix2 d l) * upd x0 x1 cos sin wk p d l n : EReal) = U (8 * T + n.val)) (n : ℕ) (h : n ≤ 8) :
    fst x0 x1 cos sin wk cd bm s p d l n h = StatesSum.run a U s₀ (8 * T + n) := by
  subst ha
  exact st_run _ _ _ _ _ _ _ hs hu n h

/-- and backward. -/
theorem bst_steps (x0 : FVec Ideal S1x1024x256 .bf16) (x1 : FVec Ideal S1x1024x512 .bf16) (cos sin : FVec Ideal S1024x128 .f32)
    (wk : FVec Ideal S2x128x128 .f32) (cd : FVec Ideal S2x128x256 .f32) (bm : FVec Ideal S128x256 .f32) (s : FVec Ideal S2x128x256 .f32)
    (p : Fin 2) (d : Fin 128) (l : Fin 256) (a s₀ : EReal) (U : ℕ → EReal) (T : ℕ) (ha : cd (ix3 p d l) = a)
    (hs : s (ix3 p d l) = StatesSum.run a U s₀ (8 * T))
    (hu : ∀ n : Fin 8, (bm (ix2 d l) * upd x0 x1 cos sin wk p d l ⟨7 - n.val, by omega⟩ : EReal) = U (8 * T + n.val)) (n : ℕ) (h : n ≤ 8) :
    bst x0 x1 cos sin wk cd bm s p d l n h = StatesSum.run a U s₀ (8 * T + n) := by
  subst ha
  exact st_run _ _ _ _ _ _ _ hs hu n h

/-- A forward step adds the reference's sum of its chunk. -/
theorem step_fwd (p : Fin 2) (d : Fin 128) (l : Fin 256) (n : Fin 8) :
    (diag m c t d l *
      upd (iblk m c 0 t) (X0_1 m c t) (iblk m c 4 t) (iblk m c 5 t) (iblk m c 8 t) p d l n : EReal) =
      added (zin m c) (wF (gf m c)) (batch t) p d l (8 * (t.val % 4) + n.val) :=
  upd_added _ _ _ _ _ _ (zin m c) (wF (gf m c)) (batch t) ⟨t.val % 4, by omega⟩ (block0 m c t) (block1 m c t)
    (fun r l => (block4 m c t r l).trans (V_cos m c _ l)) (fun r l => (block5 m c t r l).trans (V_sin m c _ l))
    (fun p j d => (block8 m c t _).trans (V_wkf m c p j d)) (block12 m c t) p d l n

/-- A backward step adds the reference's sum of its chunk. -/
theorem step_bwd (p : Fin 2) (d : Fin 128) (l : Fin 256) (n : Fin 8) :
    (diag m c t d l *
      upd (iblk m c 2 t) (X0_3 m c t) (iblk m c 6 t) (iblk m c 7 t) (iblk m c 9 t) p d l ⟨7 - n.val, by omega⟩ : EReal) =
      added (zin m c) (wB (gb m c)) (batch t) p d l (31 - (8 * (t.val % 4) + n.val)) := by
  refine (upd_added _ _ _ _ _ _ (zin m c) (wB (gb m c)) (batch t) ⟨3 - t.val % 4, by omega⟩ (block2 m c t) (block3 m c t)
    (fun r l => (block6 m c t r l).trans (V_cos m c _ l)) (fun r l => (block7 m c t r l).trans (V_sin m c _ l))
    (fun p j d => (block9 m c t _).trans (V_wkb m c p j d)) (block12 m c t) p d l ⟨7 - n.val, by omega⟩).trans ?_
  have e : 8 * (3 - t.val % 4) + (7 - n.val) = 31 - (8 * (t.val % 4) + n.val) := by omega
  exact congrArg _ e

theorem fst_run (p : Fin 2) (d : Fin 128) (l : Fin 256)
    (hin : in0 m c t (ix3 p d l) = runF (zin m c) (sf m c) (gf m c) (batch t) p d l (8 * (t.val % 4))) (n : ℕ) (h : n ≤ 8) :
    fst (iblk m c 0 t) (X0_1 m c t) (iblk m c 4 t) (iblk m c 5 t) (iblk m c 8 t) (iblk m c 10 t) (iblk m c 12 t) (in0 m c t) p d l n h =
      runF (zin m c) (sf m c) (gf m c) (batch t) p d l (8 * (t.val % 4) + n) := by
  exact fst_steps _ _ _ _ _ _ _ _ p d l _ _ _ (t.val % 4) ((block10 m c t _).trans (decay_one _ p d l)) hin (step_fwd m c t p d l) n h

theorem bst_run (p : Fin 2) (d : Fin 128) (l : Fin 256)
    (hin : in1 m c t (ix3 p d l) = runB (zin m c) (sb m c) (gb m c) (batch t) p d l (8 * (t.val % 4))) (n : ℕ) (h : n ≤ 8) :
    bst (iblk m c 2 t) (X0_3 m c t) (iblk m c 6 t) (iblk m c 7 t) (iblk m c 9 t) (iblk m c 11 t) (iblk m c 12 t) (in1 m c t) p d l n h =
      runB (zin m c) (sb m c) (gb m c) (batch t) p d l (8 * (t.val % 4) + n) := by
  exact bst_steps _ _ _ _ _ _ _ _ p d l _ _ (fun k => added (zin m c) (wB (gb m c)) (batch t) p d l (31 - k)) (t.val % 4) ((block11 m c t _).trans (decay_one _ p d l)) hin (step_bwd m c t p d l) n h

omit t

/-- The states a tile starts from are the run's, forward; -/
theorem entered0 (T : ℕ) : ∀ t : Fin cfg0.N, t.val % 4 = T → ∀ (p : Fin 2) (d : Fin 128) (l : Fin 256),
    in0 m c t (ix3 p d l) = runF (zin m c) (sf m c) (gf m c) (batch t) p d l (8 * (t.val % 4)) := by
  induction T with
  | zero =>
    intro t ht p d l
    unfold in0
    rw [if_pos ht, ht]
    exact block13 m c t p d l
  | succ T ih =>
    intro t ht p d l
    have hlt := t.isLt
    have hp : (t.val - 1) % 4 = T := by omega
    have e := congrFun (sc0 m c ⟨t.val - 1, by omega⟩ (by dsimp only; omega)) (ix3 p d l)
    have eb : batch ⟨t.val - 1, by omega⟩ = batch t := Fin.ext (by dsimp only; omega)
    have r := fst_run m c ⟨t.val - 1, by omega⟩ p d l (ih ⟨t.val - 1, by omega⟩ hp p d l) 8 (by omega)
    have en : 8 * ((t.val - 1) % 4) + 8 = 8 * (t.val % 4) := by omega
    unfold in0
    rw [if_neg (by omega)]
    refine e.trans (r.trans ?_)
    rw [eb]
    exact congrArg _ en

/-- and backward. -/
theorem entered1 (T : ℕ) : ∀ t : Fin cfg0.N, t.val % 4 = T → ∀ (p : Fin 2) (d : Fin 128) (l : Fin 256),
    in1 m c t (ix3 p d l) = runB (zin m c) (sb m c) (gb m c) (batch t) p d l (8 * (t.val % 4)) := by
  induction T with
  | zero =>
    intro t ht p d l
    unfold in1
    rw [if_pos ht, ht]
    exact block14 m c t p d l
  | succ T ih =>
    intro t ht p d l
    have hlt := t.isLt
    have hp : (t.val - 1) % 4 = T := by omega
    have e := congrFun (sc1 m c ⟨t.val - 1, by omega⟩ (by dsimp only; omega)) (ix3 p d l)
    have eb : batch ⟨t.val - 1, by omega⟩ = batch t := Fin.ext (by dsimp only; omega)
    have r := bst_run m c ⟨t.val - 1, by omega⟩ p d l (ih ⟨t.val - 1, by omega⟩ hp p d l) 8 (by omega)
    have en : 8 * ((t.val - 1) % 4) + 8 = 8 * (t.val % 4) := by omega
    unfold in1
    rw [if_neg (by omega)]
    refine e.trans (r.trans ?_)
    rw [eb]
    exact congrArg _ en

variable (t : Fin cfg0.N)

theorem emb15 (n : Fin 8) (p : Fin 2) (d : Fin 128) (l : Fin 256) : ((cfg0.win 15).blk t).view.emb (ix5 0 n p d l) =
    (ix5 (batch t) ⟨8 * (t.val % 4) + n.val, by omega⟩ p d l : S8x32x2x128x256.Idx) := by
  blk_ext [idx t]

theorem emb16 (n : Fin 8) (p : Fin 2) (d : Fin 128) (l : Fin 256) : ((cfg0.win 16).blk t).view.emb (ix5 0 n p d l) =
    (ix5 (batch t) ⟨8 * (3 - t.val % 4) + n.val, by omega⟩ p d l : S8x32x2x128x256.Idx) := by
  blk_ext [idx t]

theorem emb17 (p : Fin 2) (d : Fin 128) (l : Fin 256) : ((cfg0.win 17).blk t).view.emb (ix4 0 p d l) =
    (ix4 (batch t) p d l : S8x2x128x256.Idx) := by
  blk_ext [idx t]

theorem emb18 (p : Fin 2) (d : Fin 128) (l : Fin 256) : ((cfg0.win 18).blk t).view.emb (ix4 0 p d l) =
    (ix4 (batch t) p d l : S8x2x128x256.Idx) := by
  blk_ext [idx t]

theorem point15 (n : Fin 8) (p : Fin 2) (d : Fin 128) (l : Fin 256) :
    (fblk (iblk m c 0 t) (X0_1 m c t) (iblk m c 4 t) (iblk m c 5 t) (iblk m c 8 t) (iblk m c 10 t) (iblk m c 12 t) (in0 m c t)) (ix5 0 n p d l) =
    val_main_v174 (F := Ideal) (zin m c) (sf m c) (gf m c) (ix5 (batch t) ⟨8 * (t.val % 4) + n.val, by omega⟩ p d l) := by
  rw [Cert.StatesRefValue.res_fwd, ref_fwd]
  exact fst_run m c t p d l (entered0 m c _ t rfl p d l) n.val n.isLt.le

theorem point16 (n : Fin 8) (p : Fin 2) (d : Fin 128) (l : Fin 256) :
    (bblk (iblk m c 2 t) (X0_3 m c t) (iblk m c 6 t) (iblk m c 7 t) (iblk m c 9 t) (iblk m c 11 t) (iblk m c 12 t) (in1 m c t)) (ix5 0 n p d l) =
    val_main_v176 (F := Ideal) (zin m c) (sb m c) (gb m c) (ix5 (batch t) ⟨8 * (3 - t.val % 4) + n.val, by omega⟩ p d l) := by
  rw [Cert.StatesRefValue.res_bwd, ref_bwd]
  refine (bst_run m c t p d l (entered1 m c _ t rfl p d l) (7 - n.val) (by omega)).trans (congrArg _ ?_)
  dsimp only
  omega

theorem point17 (h : t.val % 4 = 3) (p : Fin 2) (d : Fin 128) (l : Fin 256) :
    fst (iblk m c 0 t) (X0_1 m c t) (iblk m c 4 t) (iblk m c 5 t) (iblk m c 8 t) (iblk m c 10 t) (iblk m c 12 t) (in0 m c t) p d l 8 (by omega) =
    val_main_v178 (F := Ideal) (zin m c) (sf m c) (gf m c) (ix4 (batch t) p d l) := by
  rw [Cert.StatesRefValue.end_fwd, ref_fwd, fst_run m c t p d l (entered0 m c _ t rfl p d l) 8 (by omega), h]
  rfl

theorem point18 (h : t.val % 4 = 3) (p : Fin 2) (d : Fin 128) (l : Fin 256) :
    bst (iblk m c 2 t) (X0_3 m c t) (iblk m c 6 t) (iblk m c 7 t) (iblk m c 9 t) (iblk m c 11 t) (iblk m c 12 t) (in1 m c t) p d l 8 (by omega) =
    val_main_v180 (F := Ideal) (zin m c) (sb m c) (gb m c) (ix4 (batch t) p d l) := by
  rw [Cert.StatesRefValue.end_bwd, ref_bwd, bst_run m c t p d l (entered1 m c _ t rfl p d l) 8 (by omega), h]
  rfl

omit t

theorem final15 : (dats m 0 c).arrAt 15 cfg0.N = val_main_v174 (F := Ideal) (zin m c) (sf m c) (gf m c) := by
  refine (dats m 0 c).arrAt_eq_of_covers 15 _ (by decide +kernel) fun t _ y => ?_
  blk_simp
  rw [after0_15, out15]
  obtain ⟨q, n, p, d, l, rfl⟩ : ∃ q n p d l, y = ix5 q n p d l := ⟨y 0, y 1, y 2, y 3, y 4, by funext a; fin_cases a <;> rfl⟩
  obtain rfl : q = 0 := Subsingleton.elim _ _
  exact (point15 m c t n p d l).trans (congrArg _ (emb15 t n p d l)).symm

theorem final16 : (dats m 0 c).arrAt 16 cfg0.N = val_main_v176 (F := Ideal) (zin m c) (sb m c) (gb m c) := by
  refine (dats m 0 c).arrAt_eq_of_covers 16 _ (by decide +kernel) fun t _ y => ?_
  blk_simp
  rw [after0_16, out16]
  obtain ⟨q, n, p, d, l, rfl⟩ : ∃ q n p d l, y = ix5 q n p d l := ⟨y 0, y 1, y 2, y 3, y 4, by funext a; fin_cases a <;> rfl⟩
  obtain rfl : q = 0 := Subsingleton.elim _ _
  exact (point16 m c t n p d l).trans (congrArg _ (emb16 t n p d l)).symm

/-- The last states leave with a row's last tile. -/
theorem last17 : ∀ t : Fin cfg0.N, (cfg0.win 17).flush t = true → t.val % 4 = 3 := by decide +kernel

theorem last18 : ∀ t : Fin cfg0.N, (cfg0.win 18).flush t = true → t.val % 4 = 3 := by decide +kernel

theorem final17 : (dats m 0 c).arrAt 17 cfg0.N = val_main_v178 (F := Ideal) (zin m c) (sf m c) (gf m c) := by
  refine (dats m 0 c).arrAt_eq_of_covers 17 _ (by decide +kernel) fun t hf y => ?_
  have h3 := last17 t hf
  blk_simp
  rw [after0_17, out17 m c t h3]
  obtain ⟨q, p, d, l, rfl⟩ : ∃ q p d l, y = ix4 q p d l := ⟨y 0, y 1, y 2, y 3, by funext a; fin_cases a <;> rfl⟩
  obtain rfl : q = 0 := Subsingleton.elim _ _
  exact (point17 m c t h3 p d l).trans (congrArg _ (emb17 t p d l)).symm

theorem final18 : (dats m 0 c).arrAt 18 cfg0.N = val_main_v180 (F := Ideal) (zin m c) (sb m c) (gb m c) := by
  refine (dats m 0 c).arrAt_eq_of_covers 18 _ (by decide +kernel) fun t hf y => ?_
  have h3 := last18 t hf
  blk_simp
  rw [after0_18, out18 m c t h3]
  obtain ⟨q, p, d, l, rfl⟩ : ∃ q p d l, y = ix4 q p d l := ⟨y 0, y 1, y 2, y 3, by funext a; fin_cases a <;> rfl⟩
  obtain rfl : q = 0 := Subsingleton.elim _ _
  exact (point18 m c t h3 p d l).trans (congrArg _ (emb18 t p d l)).symm

end Cert.StatesValue
-- ==== Proof.StatesClaim.lean ====
module

public import proofs.«01_k».proof.Defs
public import proofs.«01_k».proof.Proof.StatesFinal
public import proofs.«01_k».proof.Proof.Gen.StatesIdeal.Value
public import proofs.«01_k».proof.Proof.Gen.StatesRefIdeal.Run
public import proofs.«01_k».proof.Proof.Gen.StatesRefIdeal.Read
public import Idealize.ShloMosaic.Lib.Claim

@[expose] public section

set_option maxRecDepth 16384

noncomputable section

open Idealize.ShloMosaic Idealize.SL.Sem

namespace Cert.StatesClaim

/-- The kernel of the chunk states and its reference end with the same four arrays. -/
theorem algebraic : Cert.algebraic_StatesIdeal_StatesRefIdeal (hStatesIdeal := Cert.StatesIdeal.Gen.facts)
    (hStatesRefIdeal := Cert.StatesRefIdeal.Gen.facts) := by
  pair_intro
  · run_from Cert.StatesIdeal.Value.run_blocks m g
  · run_from Cert.StatesRefIdeal.Value.run m' g'
    · obtain ⟨h0, h1, h2, h3, h4⟩ := hagree c
      rw [Cert.StatesValue.final15 m c, Cert.StatesValue.zin, Cert.StatesValue.sf, Cert.StatesValue.gf, ← h0, ← h1, ← h3]
      exact Cert.StatesRefIdeal.Read.val_main_v174_eq (StableHlo.launchContents m' c)
    · obtain ⟨h0, h1, h2, h3, h4⟩ := hagree c
      rw [Cert.StatesValue.final16 m c, Cert.StatesValue.zin, Cert.StatesValue.sb, Cert.StatesValue.gb, ← h0, ← h2, ← h4]
      exact Cert.StatesRefIdeal.Read.val_main_v176_eq (StableHlo.launchContents m' c)
    · obtain ⟨h0, h1, h2, h3, h4⟩ := hagree c
      rw [Cert.StatesValue.final17 m c, Cert.StatesValue.zin, Cert.StatesValue.sf, Cert.StatesValue.gf, ← h0, ← h1, ← h3]
      exact Cert.StatesRefIdeal.Read.val_main_v178_eq (StableHlo.launchContents m' c)
    · obtain ⟨h0, h1, h2, h3, h4⟩ := hagree c
      rw [Cert.StatesValue.final18 m c, Cert.StatesValue.zin, Cert.StatesValue.sb, Cert.StatesValue.gb, ← h0, ← h2, ← h4]
      exact Cert.StatesRefIdeal.Read.val_main_v180_eq (StableHlo.launchContents m' c)

end Cert.StatesClaim

end
-- ==== Proof.ProjValue.lean ====
module

public import proofs.«01_k».proof.Proof.Gen.ProjIdeal.Frame
public import proofs.«01_k».proof.Proof.Gen.ProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjValue

open Cert.ProjIdeal Cert.ProjIdeal.Gen

variable (m : (ℓ : Loc nD τ sig) → Buf (Elt Ideal) ℓ)

/-- One row tile after the modulated RMS norm: entry `(r, k)` is row `r` of the block divided by its root mean
    square, times the scale, plus the shift. -/
def normed (x0 : FVec Ideal S1x2048x1024 .f32) (x1 x2 : FVec Ideal S1x1x1024 .f32) : FVec Ideal S2048x1024 .bf16 := fun i =>
  x0 (ix3 0 (i 0) (i 1))
      * Ideal.rsqrt (Ideal.div (∑ l : Fin 1024, x0 (ix3 0 (i 0) l) * x0 (ix3 0 (i 0) l)) (Ideal.ofBits .f32 0x44800000#32)
          + Ideal.ofBits .f32 0x358637BD#32)
      * x1 (ix3 0 0 (i 1)) + x2 (ix3 0 0 (i 1))

/-- The projected tile: the normed rows times the block of the weight. -/
def projd (h : FVec Ideal S2048x1024 .bf16) (w : FVec Ideal S1024x1280 .bf16) : FVec Ideal S1x2048x1280 .bf16 := fun i =>
  ∑ k : Fin 1024, h (ix2 (i 1) k) * w (ix2 k (i 2))

/-- At the first column step of a row tile the scratch is left holding the normed rows, in eight pieces. -/
theorem scratch_A (c : Dev nD) (t : Fin cfg0.N) (h0 : t.val % 5 = 0) (h1 : ¬1 ≤ t.val % 5) :
    (outsAt0 m c t.val t.isLt).2 = normed (iblk m c 0 t) (iblk m c 1 t) (iblk m c 2 t) := by
  rw [outsAt0_A m c t h0 h1]
  frame_out
  clear h0 h1
  funext y
  canon_tiles x h
  all_goals (open_payloads; pointwise [normed])
  all_goals blk_point []

/-- At the first column step the output tile is the normed rows times the weight's block, in eight pieces. -/
theorem out_A (c : Dev nD) (t : Fin cfg0.N) (h0 : t.val % 5 = 0) (h1 : ¬1 ≤ t.val % 5) :
    (outsAt0 m c t.val t.isLt).1 = projd (normed (iblk m c 0 t) (iblk m c 1 t) (iblk m c 2 t)) (iblk m c 3 t) := by
  rw [outsAt0_A m c t h0 h1]
  frame_out
  clear h0 h1
  funext y
  canon_tiles x h
  all_goals (open_payloads; pointwise [normed, projd])
  all_goals blk_point []

/-- At the other column steps the output tile is the scratch times the weight's block, and the scratch stays. -/
theorem outs_B (c : Dev nD) (t : Fin cfg0.N) (h0 : ¬t.val % 5 = 0) (h1 : 1 ≤ t.val % 5) (acc : FVec Ideal S2048x1024 .bf16)
    (ha : (outsAt0 m c (t.val - 1) (Nat.lt_of_le_of_lt (Nat.sub_le _ _) t.isLt)).2 = acc) :
    (outsAt0 m c t.val t.isLt) = (projd acc (iblk m c 3 t), acc) := by
  rw [outsAt0_B m c t h0 h1, ha]
  frame_out
  refine Prod.ext ?_ rfl
  show k0_pay2 _ _ = _
  rw [show View.read (Elt Ideal) (View.whole cc0_scratch0) _ = acc from (Memref.isWhole_whole _).read_unread _]
  funext y
  pointwise [k0_pay2, projd]

/-- The block indices of the windows at a grid point. -/
theorem idx : ∀ t : Fin cfg0.N, win0_0.index t = ![t.val / 10, t.val / 5 % 2, 0] ∧ win0_1.index t = ![t.val / 10, 0, 0]
    ∧ win0_2.index t = ![t.val / 10, 0, 0] ∧ win0_3.index t = ![0, t.val % 5]
    ∧ win0_4.index t = ![t.val / 10, t.val / 5 % 2, t.val % 5] ∧ t.val < 80 :=
  (by decide +kernel : ∀ t : Fin grid0.N, _)

/-- After every grid point: the output tile is the projection of the normed rows, the scratch holds the normed rows. -/
theorem outs_eq (c : Dev nD) : ∀ (n : ℕ) (hn : n < cfg0.N),
    outsAt0 m c n hn = (projd (normed (iblk m c 0 ⟨n, hn⟩) (iblk m c 1 ⟨n, hn⟩) (iblk m c 2 ⟨n, hn⟩)) (iblk m c 3 ⟨n, hn⟩),
      normed (iblk m c 0 ⟨n, hn⟩) (iblk m c 1 ⟨n, hn⟩) (iblk m c 2 ⟨n, hn⟩)) := by
  intro n
  induction n with
  | zero =>
    intro hn
    exact Prod.ext (out_A m c ⟨0, hn⟩ rfl (by show ¬ 1 ≤ 0 % 5; decide)) (scratch_A m c ⟨0, hn⟩ rfl (by show ¬ 1 ≤ 0 % 5; decide))
  | succ n ih =>
    intro hn
    by_cases h : (n + 1) % 5 = 0
    · exact Prod.ext (out_A m c ⟨n + 1, hn⟩ h (by show ¬ 1 ≤ (n + 1) % 5; omega))
        (scratch_A m c ⟨n + 1, hn⟩ h (by show ¬ 1 ≤ (n + 1) % 5; omega))
    · have hp : n < cfg0.N := Nat.lt_of_succ_lt hn
      refine outs_B m c ⟨n + 1, hn⟩ h (by show 1 ≤ (n + 1) % 5; omega) _ ?_
      refine (congrArg Prod.snd (ih hp)).trans ?_
      have e0 : iblk m c 0 ⟨n, hp⟩ = iblk m c 0 ⟨n + 1, hn⟩ := by
        funext x; blk_ext [iblk, V, idx ⟨n, hp⟩, idx ⟨n + 1, hn⟩]
      have e1 : iblk m c 1 ⟨n, hp⟩ = iblk m c 1 ⟨n + 1, hn⟩ := by
        funext x; blk_ext [iblk, idx ⟨n, hp⟩, idx ⟨n + 1, hn⟩]
      have e2 : iblk m c 2 ⟨n, hp⟩ = iblk m c 2 ⟨n + 1, hn⟩ := by
        funext x; blk_ext [iblk, V, idx ⟨n, hp⟩, idx ⟨n + 1, hn⟩]
      show normed _ _ _ = normed _ _ _
      rw [e0, e1, e2]

/-- The scale of the modulated norm: the norm's gain times one plus the modulation. -/
def scaleOf (x1 : FVec Ideal S8x1x1024 .f32) (x3 : FVec Ideal S1024 .f32) : FVec Ideal S8x1x1024 .f32 := fun j =>
  x3 (ix1 (j 2)) * (1 + x1 j)

/-- The scale the host hands to the call. -/
theorem V_scale (c : Dev nD) :
    V m c main_v4 = scaleOf (m ((c : Thread nD τ).loc main_arg1)) (m ((c : Thread nD τ).loc main_arg3)) := by
  entry_read
  funext j
  pointwise [scaleOf]

/-- The weight the host hands to the call is the argument (the cast rounds nothing here). -/
theorem V_weight (c : Dev nD) : V m c main_v5 = m ((c : Thread nD τ).loc main_arg4) := by
  entry_read
  funext j
  pointwise

/-- The projection as the reference states it, read at an index. -/
theorem ref_at (x0 : FVec Ideal S8x4096x1024 .f32) (x1 x2 : FVec Ideal S8x1x1024 .f32) (x3 : FVec Ideal S1024 .f32)
    (x4 : FVec Ideal S1024x6400 .f32) (j : S8x4096x6400.Idx) :
    Cert.ProjRefIdeal.Read.val_main_v20 (F := Ideal) x0 x1 x2 x3 x4 j
      = ∑ k : Fin 1024, (x0 (ix3 (j 0) (j 1) k)
            * Ideal.rsqrt (Ideal.div (∑ l : Fin 1024, x0 (ix3 (j 0) (j 1) l) * x0 (ix3 (j 0) (j 1) l)) (Ideal.ofBits .f32 0x44800000#32)
                + Ideal.ofBits .f32 0x358637BD#32)
            * scaleOf x1 x3 (ix3 (j 0) 0 k) + x2 (ix3 (j 0) 0 k)) * x4 (ix2 k (j 2)) := by
  pointwise [scaleOf, Cert.ProjRefIdeal.Read.val_main_cst, Cert.ProjRefIdeal.Read.val_main_cst_0, Cert.ProjRefIdeal.Read.val_main_cst_1, Cert.ProjRefIdeal.Read.val_main_cst_2, Cert.ProjRefIdeal.Read.val_main_v0, Cert.ProjRefIdeal.Read.val_main_v1, Cert.ProjRefIdeal.Read.val_main_v2, Cert.ProjRefIdeal.Read.val_main_v3, Cert.ProjRefIdeal.Read.val_main_v4, Cert.ProjRefIdeal.Read.val_main_v5, Cert.ProjRefIdeal.Read.val_main_v6, Cert.ProjRefIdeal.Read.val_main_v7, Cert.ProjRefIdeal.Read.val_main_v8, Cert.ProjRefIdeal.Read.val_main_v9, Cert.ProjRefIdeal.Read.val_main_v10, Cert.ProjRefIdeal.Read.val_main_v11, Cert.ProjRefIdeal.Read.val_main_v12, Cert.ProjRefIdeal.Read.val_main_v13, Cert.ProjRefIdeal.Read.val_main_v14, Cert.ProjRefIdeal.Read.val_main_v15, Cert.ProjRefIdeal.Read.val_main_v16, Cert.ProjRefIdeal.Read.val_main_v17, Cert.ProjRefIdeal.Read.val_main_v18, Cert.ProjRefIdeal.Read.val_main_v19, Cert.ProjRefIdeal.Read.val_main_v20]
  simp only [mul_assoc]

/-- What a grid point stores is the reference's projection at the array index its block puts it at. -/
theorem point (c : Dev nD) (t : Fin cfg0.N) (y) :
    projd (normed (iblk m c 0 t) (iblk m c 1 t) (iblk m c 2 t)) (iblk m c 3 t) y
      = Cert.ProjRefIdeal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 4).blk t).view.emb y) := by
  refine Eq.trans ?_ (ref_at _ _ _ _ _ _).symm
  have hs : ∀ x : Fin 1024, iblk m c 1 t (ix3 0 0 x) = scaleOf (m ((c : Thread nD τ).loc main_arg1))
      (m ((c : Thread nD τ).loc main_arg3)) (ix3 ((((cfg0.win 4).blk t).view.emb y) 0) 0 x) := fun x => by
    refine (congrFun (V_scale m c) (((cfg0.win 1).blk t).view.emb (ix3 0 0 x))).trans (congrArg _ ?_)
    blk_ext [idx t]
  pointwise [normed, projd, hs]
  blk_point [iblk, V_main_arg0, V_main_arg2, V_scale, V_weight, idx t]

/-- After the run the call's result array is the reference's projection of its arguments. -/
theorem final (c : Dev nD) : (dats m 0 c).arrAt 4 cfg0.N
    = Cert.ProjRefIdeal.Read.val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4, outs_eq m c t.val t.isLt]
  exact point m c t y

end Cert.ProjValue

end
-- ==== Proof.ProjClaim.lean ====
module

public import proofs.«01_k».proof.Defs
public import proofs.«01_k».proof.Proof.ProjValue
public import proofs.«01_k».proof.Proof.Gen.ProjIdeal.Value
public import proofs.«01_k».proof.Proof.Gen.ProjRefIdeal.Run
public import proofs.«01_k».proof.Proof.Gen.ProjRefIdeal.Read
public import Idealize.ShloMosaic.Lib.Claim

@[expose] public section

set_option maxRecDepth 16384

noncomputable section

open Idealize.ShloMosaic Idealize.SL.Sem

namespace Cert.ProjClaim

/-- The projection kernel and its reference end with the same array. -/
theorem algebraic : Cert.algebraic_ProjIdeal_ProjRefIdeal (hProjIdeal := Cert.ProjIdeal.Gen.facts)
    (hProjRefIdeal := Cert.ProjRefIdeal.Gen.facts) := by
  pair_intro
  · run_from Cert.ProjIdeal.Value.run_blocks m g
  · run_from Cert.ProjRefIdeal.Value.run m' g'
    rw [Cert.ProjRefIdeal.Read.val_main_v20_eq]
    exact (Cert.ProjValue.final m c).symm

end Cert.ProjClaim

end
-- ==== Proof.MergeValue.lean ====
module

public import proofs.«01_k».proof.Proof.Gen.MergeIdeal.Frame
public import proofs.«01_k».proof.Proof.Gen.MergeRefIdeal.Read
public import Idealize.ShloMosaic.Lib.Pipeline.ValueKit
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)
open Idealize.ShloMosaic.Routing

namespace Cert.MergeValue

open Cert.MergeIdeal Cert.MergeIdeal.Gen

/-! ## The body's three results over variable blocks -/

/-- Four column blocks of 256 side by side. -/
def beside (a b c d : Vec Ideal S1x512x256 .bf16) : FVec Ideal S512x1024 .bf16 := fun i =>
  if h : (i 1).val < 256 then a (ix3 0 (i 0) ⟨(i 1).val, h⟩)
  else if h : (i 1).val - 256 < 256 then b (ix3 0 (i 0) ⟨(i 1).val - 256, h⟩)
  else if h : (i 1).val - 256 - 256 < 256 then c (ix3 0 (i 0) ⟨(i 1).val - 256 - 256, h⟩)
  else d (ix3 0 (i 0) ⟨(i 1).val - 256 - 256 - 256, by have : (i 1).val < 1024 := (i 1).isLt; omega⟩)

/-- One row tile of the gated sum of the three mixers' projections. -/
def gated (x0 x1 x2 : Vec Ideal S1x512x512 .bf16) (g0 g1 g2 : FVec Ideal S512x1024 .bf16) (w : Vec Ideal S3x512x1024 .bf16) :
    FVec Ideal S512x1024 .f32 := fun i =>
  Ideal.logistic (g0 i) * ∑ l : Fin 512, x0 (ix3 0 (i 0) l) * w (ix3 0 l (i 1))
    + Ideal.logistic (g1 i) * ∑ l : Fin 512, x1 (ix3 0 (i 0) l) * w (ix3 1 l (i 1))
    + Ideal.logistic (g2 i) * ∑ l : Fin 512, x2 (ix3 0 (i 0) l) * w (ix3 2 l (i 1))

/-- The residual stream of a row tile: the input plus the gate times the output projection of the gated sum. -/
def resid (g : FVec Ideal S512x1024 .f32) (x : Vec Ideal S1x512x1024 .f32) (w : Vec Ideal S1024x1024 .bf16)
    (gate : Vec Ideal S1x1x1024 .f32) : FVec Ideal S512x1024 .f32 := fun i =>
  x (ix3 0 (i 0) (i 1)) + gate (ix3 0 0 (i 1)) * ∑ k : Fin 1024, g (ix2 (i 0) k) * w (ix2 k (i 1))

/-- The second norm of a row tile, scaled and shifted. -/
def normed (x : FVec Ideal S512x1024 .f32) (scale shift : Vec Ideal S1x1x1024 .f32) : FVec Ideal S512x1024 .f32 := fun i =>
  x i * Ideal.rsqrt (Ideal.div (∑ l : Fin 1024, x (ix2 (i 0) l) * x (ix2 (i 0) l)) (Ideal.ofBits .f32 0x44800000#32)
          + Ideal.ofBits .f32 0x358637BD#32) * scale (ix3 0 0 (i 1)) + shift (ix3 0 0 (i 1))

/-- The router's logits of a row tile: the product in the lanes of the experts, minus infinity in the others. -/
def logits (h : FVec Ideal S512x1024 .f32) (w : Vec Ideal S1024x128 .bf16) : FVec Ideal S512x128 .f32 := fun i =>
  if (i 1).val < 16 then ∑ k : Fin 1024, h (ix2 (i 0) k) * w (ix2 k (i 1)) else ⊥

/-- The softmax of a row tile's logits. -/
def affs (l : FVec Ideal S512x128 .f32) : Vec Ideal S1x512x128 .f32 := fun i =>
  Ideal.div (Ideal.exp (l (ix2 (i 1) (i 2)) - Finset.univ.fold max ⊥ fun x : Fin 128 => l (ix2 (i 1) x)))
    (∑ x : Fin 128, Ideal.exp (l (ix2 (i 1) x) - Finset.univ.fold max ⊥ fun x : Fin 128 => l (ix2 (i 1) x)))

/-- The word of minus infinity. -/
theorem negInf : Ideal.ofBits .f32 0xFF800000#32 = (⊥ : EReal) := by
  simp [Ideal.ofBits, Ideal.ieee]

/-- A load of the whole row tile reads the row tile. -/
theorem ld6 (x : Vec Ideal S1x512x1024 .f32) : View.ld x r0_6 = x := View.ld_unit_lit _ x (by decide)

/-- A load of the whole modulation row reads the row. -/
theorem ld7 (x : Vec Ideal S1x1x1024 .f32) : View.ld x r0_7 = x := View.ld_unit_lit _ x (by decide)

section Body

variable (x0 x1 x2 : Vec Ideal S1x512x512 .bf16) (x3 x4 x5 x6 x7 x8 x9 x10 x11 x12 x13 x14 : Vec Ideal S1x512x256 .bf16)
  (x15 : Vec Ideal S1x512x1024 .f32) (x16 : Vec Ideal S3x512x1024 .bf16) (x17 : Vec Ideal S1024x1024 .bf16)
  (x18 x19 x20 : Vec Ideal S1x1x1024 .f32) (x21 : Vec Ideal S1024x128 .bf16)

/-- The gated sum of a grid point, its gates put side by side. -/
abbrev gatedOf : FVec Ideal S512x1024 .f32 :=
  gated x0 x1 x2 (beside x3 x4 x5 x6) (beside x7 x8 x9 x10) (beside x11 x12 x13 x14) x16

/-- The output projection the body computes. -/
theorem proj_eq (i : S512x1024.Idx) : k0_pay13 x0 x1 x2 x3 x4 x5 x6 x7 x8 x9 x10 x11 x12 x13 x14 x15 x16 x17 x18 x19 x20 x21 i
    = ∑ k : Fin 1024, gatedOf x0 x1 x2 x3 x4 x5 x6 x7 x8 x9 x10 x11 x12 x13 x14 x16 (ix2 (i 0) k) * x17 (ix2 k (i 1)) := by
  pointwise [k0_pay13, k0_pay6, k0_pay2, k0_pay3, k0_pay4, k0_pay5, gatedOf, gated, beside]

/-- The body's first result is the residual stream. -/
theorem out22 : out0_22 x0 x1 x2 x3 x4 x5 x6 x7 x8 x9 x10 x11 x12 x13 x14 x15 x16 x17 x18 x19 x20 x21
    = fun y => resid (gatedOf x0 x1 x2 x3 x4 x5 x6 x7 x8 x9 x10 x11 x12 x13 x14 x16) x15 x17 x18 (ix2 (y 1) (y 2)) := by
  unfold out0_22
  funext y
  canon_tiles x h
  pointwise [k0_pay8, k0_pay7, resid, proj_eq]
  blk_point []

/-- The second norm the body computes. -/
theorem norm_eq (i : S512x1024.Idx) : k0_pay9 (k0_pay13 x0 x1 x2 x3 x4 x5 x6 x7 x8 x9 x10 x11 x12 x13 x14 x15 x16 x17 x18 x19 x20 x21) x15 x18 x19 x20 i
    = normed (resid (gatedOf x0 x1 x2 x3 x4 x5 x6 x7 x8 x9 x10 x11 x12 x13 x14 x16) x15 x17 x18) x19 x20 i := by
  pointwise [k0_pay9, k0_pay7, resid, normed, proj_eq]

/-- The body's second result is the norm of the residual stream. -/
theorem out23 : out0_23 x0 x1 x2 x3 x4 x5 x6 x7 x8 x9 x10 x11 x12 x13 x14 x15 x16 x17 x18 x19 x20 x21
    = fun y => normed (resid (gatedOf x0 x1 x2 x3 x4 x5 x6 x7 x8 x9 x10 x11 x12 x13 x14 x16) x15 x17 x18) x19 x20 (ix2 (y 1) (y 3)) := by
  unfold out0_23
  funext y
  canon_tiles x h
  pointwise [k0_pay10, k0_pay9, k0_pay7, normed, resid]
  blk_point []
  all_goals (rw [proj_eq]; blk_point [])

/-- A fold of `max` from minus infinity, or a sum of exponentials, over 128 lanes that hold minus infinity past lane 16
    is the one over the first 16. -/
theorem fold_lanes (g : Fin 16 → EReal) : (Finset.univ.fold max ⊥ fun x : Fin 128 => if h : x.val < 16 then g ⟨x.val, h⟩ else ⊥)
    = Finset.univ.fold max ⊥ g := by
  refine le_antisymm (Finset.sup_le (f := fun x : Fin 128 => if h : x.val < 16 then g ⟨x.val, h⟩ else ⊥) fun x _ => ?_)
    (Finset.sup_le (f := g) fun x _ => ?_)
  · show (if h : x.val < 16 then g ⟨x.val, h⟩ else ⊥) ≤ _
    by_cases h : x.val < 16
    · rw [dif_pos h]
      exact Finset.le_sup (f := g) (Finset.mem_univ _)
    · rw [dif_neg h]
      exact bot_le
  · have q := Finset.le_sup (f := fun x : Fin 128 => if h : x.val < 16 then g ⟨x.val, h⟩ else ⊥)
      (Finset.mem_univ (⟨x.val, by omega⟩ : Fin 128))
    exact le_trans (le_of_eq (by show _ = dite _ _ _; rw [dif_pos x.isLt])) q

/-- The sum of the exponentials over the 128 lanes is the sum over the first 16. -/
theorem sum_lanes (g : Fin 16 → EReal) (M : EReal) :
    (∑ x : Fin 128, Ideal.exp ((if h : x.val < 16 then g ⟨x.val, h⟩ else ⊥) - M)) = ∑ x : Fin 16, Ideal.exp (g x - M) := by
  rw [show (∑ x : Fin 128, Ideal.exp ((if h : x.val < 16 then g ⟨x.val, h⟩ else ⊥) - M)) = _ from
    Fin.sum_univ_add (a := 16) (b := 112) (fun x : Fin (16 + 112) => Ideal.exp ((if h : x.val < 16 then g ⟨x.val, h⟩ else ⊥) - M))]
  have e : (∑ i : Fin 112, Ideal.exp ((if h : (Fin.natAdd 16 i).val < 16 then g ⟨(Fin.natAdd 16 i).val, h⟩ else ⊥) - M)) = 0 :=
    Finset.sum_eq_zero fun i _ => by
      rw [dif_neg (by show ¬ 16 + i.val < 16; omega), EReal.bot_sub, Ideal.exp_bot]
  rw [e, add_zero]
  refine Finset.sum_congr rfl fun i _ => ?_
  rw [dif_pos (show (Fin.castAdd 112 i).val < 16 from i.isLt)]
  rfl

/-- A lane's comparison with sixteen, as the bit the body selects with. -/
theorem select_lane (n : ℕ) (hn : n < 128) (a b : EReal) :
    Scalar.select (IntOp.cmpi CmpIPredicate.slt (BitVec.ofNat 32 n) 16#32) a b = if n < 16 then a else b := by
  have e : ∀ n : Fin 128, IntOp.cmpi CmpIPredicate.slt (BitVec.ofNat 32 n.val) 16#32 = if n.val < 16 then 1#1 else 0#1 := by decide
  rw [e ⟨n, hn⟩]
  by_cases h : n < 16
  · rw [if_pos h, if_pos h]; rfl
  · rw [if_neg h, if_neg h]; rfl

/-- The named constant is minus infinity. -/
theorem neg_inf : (Named.named Cert.MergeIdeal.κ "neg_inf" (0xF149F2CA#32 : BitVec (FTy.bits .f32)) : Ideal .f32) = (⊥ : EReal) := rfl

/-- The body's third result is the softmax of the logits. -/
theorem out24 : out0_24 x0 x1 x2 x3 x4 x5 x6 x7 x8 x9 x10 x11 x12 x13 x14 x15 x16 x17 x18 x19 x20 x21
    = affs (logits (normed (resid (gatedOf x0 x1 x2 x3 x4 x5 x6 x7 x8 x9 x10 x11 x12 x13 x14 x16) x15 x17 x18) x19 x20) x21) := by
  have key : ∀ (a : FVec Ideal S512x1024 .bf16) (b : FVec Ideal S1024x128 .bf16),
      k0_pay1 a b (constant S512x128 .f32 0x00000000#32) = affs (logits a b) := fun a b => by
    funext y
    pointwise [k0_pay1, affs]
    simp only [select_lane (y 2).val (y 2).isLt, select_lane _ (Fin.isLt _), neg_inf, negInf]
    rfl
  unfold out0_24
  funext y
  canon_tiles x h
  rw [key]
  rw [ld6, ld7, ld7, ld7]
  have hn : k0_pay11 (k0_pay13 x0 x1 x2 x3 x4 x5 x6 x7 x8 x9 x10 x11 x12 x13 x14 x15 x16 x17 x18 x19 x20 x21) x15 x18 x19 x20
      = normed (resid (gatedOf x0 x1 x2 x3 x4 x5 x6 x7 x8 x9 x10 x11 x12 x13 x14 x16) x15 x17 x18) x19 x20 := by
    funext i
    refine Eq.trans ?_ (norm_eq x0 x1 x2 x3 x4 x5 x6 x7 x8 x9 x10 x11 x12 x13 x14 x15 x16 x17 x18 x19 x20 x21 i)
    pointwise [k0_pay11]
  rw [hn]
  have hw : k0_pay12 (View.ld x21 r0_9) = x21 := by
    funext i
    pointwise [k0_pay12]
  rw [hw]
  exact congrArg _ (funext fun a => Fin.ext (match a with | ⟨0, _⟩ => h0.symm | ⟨1, _⟩ => h1.symm | ⟨2, _⟩ => h2.symm))

end Body

/-! ## The blocks of a grid point, read in the arrays -/

variable (m : (ℓ : Loc nD τ sig) → Buf (Elt Ideal) ℓ)

/-- The block indices of the windows at a grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 13]
    ∧ win0_4.index t = ![t.val / 8, t.val % 8, 14] ∧ win0_5.index t = ![t.val / 8, t.val % 8, 15]
    ∧ win0_6.index t = ![t.val / 8, t.val % 8, 16] ∧ win0_7.index t = ![t.val / 8, t.val % 8, 17]
    ∧ win0_8.index t = ![t.val / 8, t.val % 8, 18] ∧ win0_9.index t = ![t.val / 8, t.val % 8, 19]
    ∧ win0_10.index t = ![t.val / 8, t.val % 8, 20] ∧ win0_11.index t = ![t.val / 8, t.val % 8, 21]
    ∧ win0_12.index t = ![t.val / 8, t.val % 8, 22] ∧ win0_13.index t = ![t.val / 8, t.val % 8, 23]
    ∧ win0_14.index t = ![t.val / 8, t.val % 8, 24] ∧ win0_15.index t = ![t.val / 8, t.val % 8, 0]
    ∧ win0_16.index t = ![0, 0, 0] ∧ win0_17.index t = ![0, 0] ∧ win0_18.index t = ![t.val / 8, 0, 0]
    ∧ win0_19.index t = ![t.val / 8, 0, 0] ∧ win0_20.index t = ![t.val / 8, 0, 0] ∧ win0_21.index t = ![0, 0]
    ∧ win0_22.index t = ![t.val / 8, t.val % 8, 0] ∧ win0_23.index t = ![t.val / 8, t.val % 8, 0, 0]
    ∧ win0_24.index t = ![t.val / 8, t.val % 8, 0] ∧ t.val < 64 :=
  (by decide +kernel : ∀ t : Fin grid0.N, _)

/-- The batch of a grid point. -/
def bI (t : Fin cfg0.N) : Fin 8 := ⟨t.val / 8, by have := (idx t).2.2.2.2.2.2.2.2.2.2.2.2.2.2.2.2.2.2.2.2.2.2.2.2.2; omega⟩

/-- The array row of a row of a grid point's tile. -/
def rI (t : Fin cfg0.N) (r : Fin 512) : Fin 4096 := ⟨t.val % 8 * 512 + r.val, by omega⟩

/-- Four column blocks side by side are one run of columns of the array they are cut from. -/
theorem beside_run (z : FVec Ideal S8x4096x6400 .bf16) (a b c d : Vec Ideal S1x512x256 .bf16) (B : Fin 8) (R : Fin 4096)
    (r : Fin 512) (o : ℕ) (ho : o + 1024 ≤ 6400)
    (ha : ∀ x : Fin 256, a (ix3 0 r x) = z (ix3 B R ⟨o + x.val, by omega⟩))
    (hb : ∀ x : Fin 256, b (ix3 0 r x) = z (ix3 B R ⟨o + (256 + x.val), by omega⟩))
    (hc : ∀ x : Fin 256, c (ix3 0 r x) = z (ix3 B R ⟨o + (512 + x.val), by omega⟩))
    (hd : ∀ x : Fin 256, d (ix3 0 r x) = z (ix3 B R ⟨o + (768 + x.val), by omega⟩)) (k : Fin 1024) :
    beside a b c d (ix2 r k) = z (ix3 B R ⟨o + k.val, by omega⟩) := by
  show (if h : k.val < 256 then a (ix3 0 r ⟨k.val, h⟩) else if h : k.val - 256 < 256 then b (ix3 0 r ⟨k.val - 256, h⟩)
    else if h : k.val - 256 - 256 < 256 then c (ix3 0 r ⟨k.val - 256 - 256, h⟩) else d (ix3 0 r ⟨k.val - 256 - 256 - 256, _⟩)) = _
  split_ifs
  · rw [ha]
  · rw [hb]; refine congrArg z (congrArg (ix3 B R) (Fin.ext ?_)); show o + (256 + (k.val - 256)) = o + k.val; omega
  · rw [hc]; refine congrArg z (congrArg (ix3 B R) (Fin.ext ?_)); show o + (512 + (k.val - 256 - 256)) = o + k.val; omega
  · rw [hd]; refine congrArg z (congrArg (ix3 B R) (Fin.ext ?_)); show o + (768 + (k.val - 256 - 256 - 256)) = o + k.val; omega

/-- The first branch's gates of a grid point, read in the array of the gates' arguments. -/
theorem gate0 (c : Dev nD) (t : Fin cfg0.N) (r : Fin 512) (k : Fin 1024) :
    beside (iblk m c 3 t) (iblk m c 4 t) (iblk m c 5 t) (iblk m c 6 t) (ix2 r k)
      = (m ((c : Thread nD τ).loc main_arg3) : FVec Ideal S8x4096x6400 .bf16) (ix3 (bI t) (rI t r) ⟨3328 + k.val, by omega⟩) := by
  refine beside_run _ _ _ _ _ _ _ _ 3328 (by decide) (fun x => ?_) (fun x => ?_) (fun x => ?_) (fun x => ?_) k
  all_goals blk_point [iblk, V_main_arg3, idx t, bI, rI]

/-- The second branch's gates of a grid point. -/
theorem gate1 (c : Dev nD) (t : Fin cfg0.N) (r : Fin 512) (k : Fin 1024) :
    beside (iblk m c 7 t) (iblk m c 8 t) (iblk m c 9 t) (iblk m c 10 t) (ix2 r k)
      = (m ((c : Thread nD τ).loc main_arg3) : FVec Ideal S8x4096x6400 .bf16) (ix3 (bI t) (rI t r) ⟨4352 + k.val, by omega⟩) := by
  refine beside_run _ _ _ _ _ _ _ _ 4352 (by decide) (fun x => ?_) (fun x => ?_) (fun x => ?_) (fun x => ?_) k
  all_goals blk_point [iblk, V_main_arg3, idx t, bI, rI]

/-- The third branch's gates of a grid point. -/
theorem gate2 (c : Dev nD) (t : Fin cfg0.N) (r : Fin 512) (k : Fin 1024) :
    beside (iblk m c 11 t) (iblk m c 12 t) (iblk m c 13 t) (iblk m c 14 t) (ix2 r k)
      = (m ((c : Thread nD τ).loc main_arg3) : FVec Ideal S8x4096x6400 .bf16) (ix3 (bI t) (rI t r) ⟨5376 + k.val, by omega⟩) := by
  refine beside_run _ _ _ _ _ _ _ _ 5376 (by decide) (fun x => ?_) (fun x => ?_) (fun x => ?_) (fun x => ?_) k
  all_goals blk_point [iblk, V_main_arg3, idx t, bI, rI]

/-- The branch weights the host hands to the call are the argument (the cast rounds nothing here). -/
theorem V_branch (c : Dev nD) : V m c main_v5 = m ((c : Thread nD τ).loc main_arg9) := by
  entry_read
  funext j
  pointwise

/-- The output weight likewise. -/
theorem V_out (c : Dev nD) : V m c main_v6 = m ((c : Thread nD τ).loc main_arg10) := by
  entry_read
  funext j
  pointwise

/-- The scale of the modulated norm: the norm's gain times one plus the modulation. -/
def scaleOf (x6 : FVec Ideal S8x1x1024 .f32) (x8 : FVec Ideal S1024 .f32) : FVec Ideal S8x1x1024 .f32 := fun j =>
  x8 (ix1 (j 2)) * (1 + x6 j)

/-- The scale the host hands to the call. -/
theorem V_scale (c : Dev nD) :
    V m c main_v10 = scaleOf (m ((c : Thread nD τ).loc main_arg6)) (m ((c : Thread nD τ).loc main_arg8)) := by
  entry_read
  funext j
  pointwise [scaleOf]

/-- An update of the columns from the one start word on, when that word is zero, lands at its own index. -/
theorem lands (d : IVec S1 32) (hd : d = fun _ => 0#32) (u : S1024x16.Idx) (w : Fin 1024) (e : Fin 128) :
    scatter_S1024x128_S1_S1024x16_01_n_1_0.resultIdx? u d = some (ix2 w e) ↔ (u 0).val = w.val ∧ (u 1).val = e.val := by
  have hs : ∀ a, scatter_S1024x128_S1_S1024x16_01_n_1_0.start u d a = 0 := fun a => by
    subst hd
    unfold ScatterDims.start
    split_ifs <;> rfl
  have h0 : scatter_S1024x128_S1_S1024x16_01_n_1_0.window u 0 = (u 0).val := rfl
  have h1 : scatter_S1024x128_S1_S1024x16_01_n_1_0.window u 1 = (u 1).val := rfl
  refine (resultIdx?_ix2 _ _ _ _ _).trans ?_
  rw [hs, hs, h0, h1]
  omega

/-- Sixteen columns written at column zero are read there. -/
theorem hit (z : FVec Ideal S1024x128 .f32) (d : IVec S1 32) (hd : d = fun _ => 0#32) (u : FVec Ideal S1024x16 .f32)
    (k : Fin 1024) (e : Fin 16) :
    Host.scatter scatter_S1024x128_S1_S1024x16_01_n_1_0 (fun _ b => b) z d u (ix2 k ⟨e.val, by omega⟩) = u (ix2 k e) := by
  refine scatter_set_hit scatter_S1024x128_S1_S1024x16_01_n_1_0 z d u _ _ (fun v hv => ?_) (ix2 k e)
    ((lands d hd (ix2 k e) k ⟨e.val, by omega⟩).2 ⟨rfl, rfl⟩)
  obtain ⟨e0, e1⟩ := (lands d hd v k ⟨e.val, by omega⟩).1 hv
  exact congrArg u (funext fun a => Fin.ext (match a with | ⟨0, _⟩ => e0 | ⟨1, _⟩ => e1))

/-- In the experts' lanes the router weight the host hands to the call is the argument. -/
theorem V_router (c : Dev nD) (k : Fin 1024) (e : Fin 16) :
    (V m c main_v4 : FVec Ideal S1024x128 .bf16) (ix2 k ⟨e.val, by omega⟩)
      = (m ((c : Thread nD τ).loc main_arg11) : FVec Ideal S1024x16 .f32) (ix2 k e) := by
  have h : V m c main_v4 = (truncf .bf16 (Host.scatter scatter_S1024x128_S1_S1024x16_01_n_1_0 (fun x b => b)
        (broadcastInDim S1024x128 ![] bcast_S_S1024x128 (constant S_ FTy.f32 0#32))
        (broadcastInDim S1 ![] bcast_S_S1 (constantI S_ 32 0#32)) (m ((c : Thread nD τ).loc main_arg11)))
      bitsLt_bf16_f32 : FVec Ideal S1024x128 .bf16) := by
    entry_read
    rfl
  rw [h]
  rw [truncf_apply]
  have hd : (broadcastInDim S1 ![] bcast_S_S1 (constantI S_ 32 0#32) : IVec S1 32) = fun _ => 0#32 := funext fun _ => rfl
  have q := hit (broadcastInDim S1024x128 ![] bcast_S_S1024x128 (constant S_ FTy.f32 0#32)) _ hd (m ((c : Thread nD τ).loc main_arg11)) k e
  have strip : ∀ x : Ideal .f32, (FloatOps.truncf FTy.bf16 bitsLt_bf16_f32 x : Ideal .bf16) = x := fun _ => rfl
  exact (strip _).trans q

/-! ## The reference, read at an index -/

section Ref

open Cert.MergeRefIdeal.Read

variable (x0 x1 x2 : FVec Ideal S8x4096x512 .bf16) (x3 : FVec Ideal S8x4096x6400 .bf16) (x4 : FVec Ideal S8x4096x1024 .f32)
  (x5 x6 x7 : FVec Ideal S8x1x1024 .f32) (x8 : FVec Ideal S1024 .f32) (x9 : FVec Ideal S3x512x1024 .f32)
  (x10 : FVec Ideal S1024x1024 .f32) (x11 : FVec Ideal S1024x16 .f32)

/-- The reference's residual stream at an index. -/
theorem ref_resid (b : Fin 8) (r : Fin 4096) (k : Fin 1024) :
    val_main_v35 (F := Ideal) x0 x1 x2 x3 x4 x5 x9 x10 (ix3 b r k)
      = x4 (ix3 b r k) + x5 (ix3 b 0 k) * ∑ x : Fin 1024,
          (Ideal.logistic (x3 (ix3 b r ⟨3328 + x.val, by omega⟩)) * ∑ l : Fin 512, x0 (ix3 b r l) * x9 (ix3 0 l x)
          + Ideal.logistic (x3 (ix3 b r ⟨4352 + x.val, by omega⟩)) * ∑ l : Fin 512, x1 (ix3 b r l) * x9 (ix3 1 l x)
          + Ideal.logistic (x3 (ix3 b r ⟨5376 + x.val, by omega⟩)) * ∑ l : Fin 512, x2 (ix3 b r l) * x9 (ix3 2 l x))
          * x10 (ix2 x k) := by
  pointwise [Cert.MergeRefIdeal.Read.val_main_cst, Cert.MergeRefIdeal.Read.val_main_cst_0, Cert.MergeRefIdeal.Read.val_main_cst_1, Cert.MergeRefIdeal.Read.val_main_cst_2, Cert.MergeRefIdeal.Read.val_main_cst_3, Cert.MergeRefIdeal.Read.val_main_cst_4, Cert.MergeRefIdeal.Read.val_main_cst_5, Cert.MergeRefIdeal.Read.val_main_cst_6, Cert.MergeRefIdeal.Read.val_main_c, Cert.MergeRefIdeal.Read.val_main_call0_v0, Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_v31, Cert.MergeRefIdeal.Read.val_main_v32, Cert.MergeRefIdeal.Read.val_main_v33, Cert.MergeRefIdeal.Read.val_main_v34, Cert.MergeRefIdeal.Read.val_main_v35]
  blk_point [Ideal.logistic]
  all_goals (refine congrArg (fun a => Ideal.div 1 (1 + Ideal.exp (-x3 (ix3 b r a))) * _) (Fin.ext ?_); show _ + (_ + _) = _ + _; omega)

/-- The reference's second norm at an index, from its residual stream. -/
theorem ref_norm (j : S8x4096x1024.Idx) :
    val_main_v54 (F := Ideal) x0 x1 x2 x3 x4 x5 x6 x7 x8 x9 x10 j
      = val_main_v35 (F := Ideal) x0 x1 x2 x3 x4 x5 x9 x10 j
        * Ideal.rsqrt (Ideal.div (∑ l : Fin 1024, val_main_v35 (F := Ideal) x0 x1 x2 x3 x4 x5 x9 x10 (ix3 (j 0) (j 1) l)
            * val_main_v35 (F := Ideal) x0 x1 x2 x3 x4 x5 x9 x10 (ix3 (j 0) (j 1) l)) (Ideal.ofBits .f32 0x44800000#32)
          + Ideal.ofBits .f32 0x358637BD#32) * scaleOf x6 x8 (ix3 (j 0) 0 (j 2)) + x7 (ix3 (j 0) 0 (j 2)) := by
  pointwise [scaleOf, Cert.MergeRefIdeal.Read.val_main_cst, Cert.MergeRefIdeal.Read.val_main_cst_0, Cert.MergeRefIdeal.Read.val_main_cst_1, Cert.MergeRefIdeal.Read.val_main_cst_2, Cert.MergeRefIdeal.Read.val_main_cst_3, Cert.MergeRefIdeal.Read.val_main_cst_4, Cert.MergeRefIdeal.Read.val_main_cst_5, Cert.MergeRefIdeal.Read.val_main_cst_6, Cert.MergeRefIdeal.Read.val_main_c, Cert.MergeRefIdeal.Read.val_main_call0_v0, Cert.MergeRefIdeal.Read.val_main_v36, Cert.MergeRefIdeal.Read.val_main_v37, Cert.MergeRefIdeal.Read.val_main_v38, Cert.MergeRefIdeal.Read.val_main_v39, Cert.MergeRefIdeal.Read.val_main_v40, Cert.MergeRefIdeal.Read.val_main_v41, Cert.MergeRefIdeal.Read.val_main_v42, Cert.MergeRefIdeal.Read.val_main_v43, Cert.MergeRefIdeal.Read.val_main_v44, Cert.MergeRefIdeal.Read.val_main_v45, Cert.MergeRefIdeal.Read.val_main_v46, Cert.MergeRefIdeal.Read.val_main_v47, Cert.MergeRefIdeal.Read.val_main_v48, Cert.MergeRefIdeal.Read.val_main_v49, Cert.MergeRefIdeal.Read.val_main_v50, Cert.MergeRefIdeal.Read.val_main_v51, Cert.MergeRefIdeal.Read.val_main_v52, Cert.MergeRefIdeal.Read.val_main_v53, Cert.MergeRefIdeal.Read.val_main_v54]
  simp only [mul_assoc]

/-- The reference's logits at an index, from its second norm. -/
theorem ref_logits (b : Fin 8) (r : Fin 4096) (e : Fin 16) :
    val_main_v55 (F := Ideal) x0 x1 x2 x3 x4 x5 x6 x7 x8 x9 x10 x11 (ix3 b r e)
      = ∑ k : Fin 1024, val_main_v54 (F := Ideal) x0 x1 x2 x3 x4 x5 x6 x7 x8 x9 x10 (ix3 b r k) * x11 (ix2 k e) := by
  pointwise [val_main_v55]

/-- The reference's affinities at an index, from its logits. -/
theorem ref_aff (b : Fin 8) (r : Fin 4096) (e : Fin 128) :
    val_main_v65 (F := Ideal) x0 x1 x2 x3 x4 x5 x6 x7 x8 x9 x10 x11 (ix3 b r e)
      = Ideal.div (if h : e.val < 16 then
            Ideal.exp (val_main_v55 (F := Ideal) x0 x1 x2 x3 x4 x5 x6 x7 x8 x9 x10 x11 (ix3 b r ⟨e.val, h⟩)
              - Finset.univ.fold max ⊥ fun x : Fin 16 => val_main_v55 (F := Ideal) x0 x1 x2 x3 x4 x5 x6 x7 x8 x9 x10 x11 (ix3 b r x))
          else 0)
        (∑ x : Fin 16, Ideal.exp (val_main_v55 (F := Ideal) x0 x1 x2 x3 x4 x5 x6 x7 x8 x9 x10 x11 (ix3 b r x)
              - Finset.univ.fold max ⊥ fun x : Fin 16 => val_main_v55 (F := Ideal) x0 x1 x2 x3 x4 x5 x6 x7 x8 x9 x10 x11 (ix3 b r x))) := by
  pointwise [Cert.MergeRefIdeal.Read.val_main_cst, Cert.MergeRefIdeal.Read.val_main_cst_0, Cert.MergeRefIdeal.Read.val_main_cst_1, Cert.MergeRefIdeal.Read.val_main_cst_2, Cert.MergeRefIdeal.Read.val_main_cst_3, Cert.MergeRefIdeal.Read.val_main_cst_4, Cert.MergeRefIdeal.Read.val_main_cst_5, Cert.MergeRefIdeal.Read.val_main_cst_6, Cert.MergeRefIdeal.Read.val_main_c, Cert.MergeRefIdeal.Read.val_main_call0_v0, Cert.MergeRefIdeal.Read.val_main_v56, Cert.MergeRefIdeal.Read.val_main_v57, Cert.MergeRefIdeal.Read.val_main_v58, Cert.MergeRefIdeal.Read.val_main_v59, Cert.MergeRefIdeal.Read.val_main_v60, Cert.MergeRefIdeal.Read.val_main_v61, Cert.MergeRefIdeal.Read.val_main_v62, Cert.MergeRefIdeal.Read.val_main_v63, Cert.MergeRefIdeal.Read.val_main_v64, Cert.MergeRefIdeal.Read.val_main_v65]
  have z : (FloatOps.sitofp (F := Ideal) FTy.f32 (0#32 : BitVec 32)) = (0 : EReal) := by simp [FloatOps.sitofp]
  simp only [negInf, z]

end Ref

/-! ## What a grid point stores -/

variable (c : Dev nD)

/-- The residual stream the reference computes from the call's arguments. -/
abbrev refResid : FVec Ideal S8x4096x1024 .f32 := Cert.MergeRefIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10))

/-- The second norm the reference computes from the call's arguments. -/
abbrev refNorm : FVec Ideal S8x4096x1024 .f32 := Cert.MergeRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The residual stream of a grid point. -/
abbrev residAt (t : Fin cfg0.N) : FVec Ideal S512x1024 .f32 :=
  resid (gatedOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t)) (iblk m c 15 t) (iblk m c 17 t) (iblk m c 18 t)

/-- The second norm of a grid point. -/
abbrev normAt (t : Fin cfg0.N) : FVec Ideal S512x1024 .f32 := normed (residAt m c t) (iblk m c 19 t) (iblk m c 20 t)

/-- A grid point's residual stream is the reference's at its rows. -/
theorem resid_at (t : Fin cfg0.N) (r : Fin 512) (k : Fin 1024) :
    residAt m c t (ix2 r k) = refResid m c (ix3 (bI t) (rI t r) k) := by
  refine Eq.trans ?_ (ref_resid _ _ _ _ _ _ _ _ _ _ _).symm
  pointwise [residAt, resid, gatedOf, gated, gate0, gate1, gate2]
  blk_point [iblk, V_main_arg0, V_main_arg1, V_main_arg2, V_main_arg4, V_main_arg5, V_branch, V_out, idx t, bI, rI]

/-- A grid point's second norm is the reference's at its rows. -/
theorem norm_at (t : Fin cfg0.N) (r : Fin 512) (k : Fin 1024) :
    normAt m c t (ix2 r k) = refNorm m c (ix3 (bI t) (rI t r) k) := by
  refine Eq.trans ?_ (ref_norm _ _ _ _ _ _ _ _ _ _ _ _).symm
  have hs : iblk m c 19 t (ix3 0 0 k) = scaleOf (m ((c : Thread nD τ).loc main_arg6))
      (m ((c : Thread nD τ).loc main_arg8)) (ix3 (bI t) 0 k) := by
    refine (congrFun (V_scale m c) (((cfg0.win 19).blk t).view.emb (ix3 0 0 k))).trans (congrArg _ ?_)
    blk_ext [idx t, bI]
  have hb : iblk m c 20 t (ix3 0 0 k) = (m ((c : Thread nD τ).loc main_arg7) : FVec Ideal S8x1x1024 .f32) (ix3 (bI t) 0 k) := by
    blk_point [iblk, V_main_arg7, idx t, bI]
  show residAt m c t (ix2 r k) * Ideal.rsqrt (Ideal.div (∑ l : Fin 1024, residAt m c t (ix2 r l) * residAt m c t (ix2 r l)) _ + _)
    * iblk m c 19 t (ix3 0 0 k) + iblk m c 20 t (ix3 0 0 k) = _
  simp only [resid_at, hs, hb]
  rfl

/-- The logits of a grid point: the reference's in the experts' lanes, minus infinity in the others. -/
theorem logits_at (t : Fin cfg0.N) (r : Fin 512) (e : Fin 128) :
    logits (normAt m c t) (iblk m c 21 t) (ix2 r e)
      = if h : e.val < 16 then Cert.MergeRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (bI t) (rI t r) ⟨e.val, h⟩) else ⊥ := by
  show (if e.val < 16 then _ else _) = _
  by_cases h : e.val < 16
  · rw [if_pos h, dif_pos h]
    refine Eq.trans ?_ (ref_logits _ _ _ _ _ _ _ _ _ _ _ _ _ _ _).symm
    refine Finset.sum_congr rfl fun k _ => ?_
    refine congrArg₂ _ (norm_at m c t r k) ?_
    have hv : ((cfg0.win 21).blk t).view.emb (ix2 k e) = ix2 k ⟨e.val, by omega⟩ := by
      blk_ext [idx t]
    refine (congrArg (V m c main_v4 : FVec Ideal S1024x128 .bf16) hv).trans ?_
    exact V_router m c k ⟨e.val, h⟩
  · rw [if_neg h, dif_neg h]

/-- What a grid point stores of the residual stream. -/
theorem point22 (t : Fin cfg0.N) (y : S1x512x1024.Idx) :
    residAt m c t (ix2 (y 1) (y 2)) = refResid m c (((cfg0.win 22).blk t).view.emb y) := by
  refine (resid_at m c t _ _).trans (congrArg _ ?_)
  blk_ext [idx t, bI, rI]

/-- What a grid point stores of the second norm. -/
theorem point23 (t : Fin cfg0.N) (y : S1x512x1x1024.Idx) :
    normAt m c t (ix2 (y 1) (y 3)) = Cert.MergeRefIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 23).blk t).view.emb y) := by
  refine (norm_at m c t _ _).trans ?_
  pointwise [Cert.MergeRefIdeal.Read.val_main_v66]
  blk_point [refNorm, idx t, bI, rI]

/-- The softmax of logits that are minus infinity past lane 16 is the softmax over the first 16 lanes, zero past them. -/
theorem affs_lanes (l : FVec Ideal S512x128 .f32) (g : Fin 16 → EReal) (r : Fin 512)
    (hl : ∀ e : Fin 128, l (ix2 r e) = if h : e.val < 16 then g ⟨e.val, h⟩ else ⊥) (e : Fin 128) :
    affs l (ix3 0 r e) = Ideal.div (if h : e.val < 16 then Ideal.exp (g ⟨e.val, h⟩ - Finset.univ.fold max ⊥ g) else 0)
      (∑ x : Fin 16, Ideal.exp (g x - Finset.univ.fold max ⊥ g)) := by
  show Ideal.div (Ideal.exp (l (ix2 r e) - Finset.univ.fold max ⊥ fun x : Fin 128 => l (ix2 r x)))
    (∑ x : Fin 128, Ideal.exp (l (ix2 r x) - Finset.univ.fold max ⊥ fun x : Fin 128 => l (ix2 r x))) = _
  simp only [hl]
  rw [fold_lanes, sum_lanes]
  refine congrArg (fun a => Ideal.div a _) ?_
  by_cases h : e.val < 16
  · rw [dif_pos h, dif_pos h]
  · rw [dif_neg h, dif_neg h, EReal.bot_sub, Ideal.exp_bot]

/-- What a grid point stores of the affinities. -/
theorem point24 (t : Fin cfg0.N) (y : S1x512x128.Idx) :
    affs (logits (normAt m c t) (iblk m c 21 t)) y
      = Cert.MergeRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 24).blk t).view.emb y) := by
  have e : ((cfg0.win 24).blk t).view.emb y = ix3 (bI t) (rI t (y 1)) (y 2) := by
    blk_ext [idx t, bI, rI]
  rw [e]
  refine Eq.trans ?_ (ref_aff _ _ _ _ _ _ _ _ _ _ _ _ _ _ _).symm
  exact affs_lanes _ _ (y 1) (logits_at m c t (y 1)) (y 2)

/-! ## The results after the run -/

/-- After the run the call's first result is the reference's residual stream. -/
theorem final22 : (dats m 0 c).arrAt 22 cfg0.N = refResid m c := by
  refine (dats m 0 c).arrAt_eq_of_covers 22 _ (by decide +kernel) fun t _ y => ?_
  blk_simp
  rw [after0_22, out22]
  exact point22 m c t y

/-- After the run the call's second result is the reference's second norm. -/
theorem final23 : (dats m 0 c).arrAt 23 cfg0.N = Cert.MergeRefIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 23 _ (by decide +kernel) fun t _ y => ?_
  blk_simp
  rw [after0_23, out23]
  exact point23 m c t y

/-- After the run the call's third result is the reference's affinities. -/
theorem final24 : (dats m 0 c).arrAt 24 cfg0.N = Cert.MergeRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 24 _ (by decide +kernel) fun t _ y => ?_
  blk_simp
  rw [after0_24, out24]
  exact point24 m c t y

end Cert.MergeValue

end
-- ==== Proof.MergeClaim.lean ====
module

public import proofs.«01_k».proof.Defs
public import proofs.«01_k».proof.Proof.MergeValue
public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim

@[expose] public section

set_option maxRecDepth 16384

noncomputable section

open Idealize.ShloMosaic Idealize.SL.Sem

namespace Cert.MergeClaim

/-- The merge kernel and its reference end with the same three arrays. -/
theorem algebraic : Cert.algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    · rw [Cert.MergeRefIdeal.Read.val_main_v35_eq]
      exact (Cert.MergeValue.final22 m c).symm
    · rw [Cert.MergeRefIdeal.Read.val_main_v66_eq, Cert.MergeValue.final23 m c]
      simp only [hagree c]
    · rw [Cert.MergeRefIdeal.Read.val_main_v65_eq, Cert.MergeValue.final24 m c]
      simp only [hagree c]

end Cert.MergeClaim

end
-- ==== Proof.lean ====
module

public import proofs.«01_k».proof.Proof.Gen.MixIdeal.Value
public import proofs.«01_k».proof.Proof.Gen.MixRefIdeal.Run
public import proofs.«01_k».proof.Proof.Gen.MixRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.MixClaim
public import proofs.«01_k».proof.Proof.StatesClaim
public import proofs.«01_k».proof.Proof.ProjClaim
public import proofs.«01_k».proof.Proof.MergeClaim
public import Idealize.ShloMosaic.Lib.Claim
public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.StatesIdeal.Value
public import proofs.«01_k».proof.Proof.Gen.StatesRefIdeal.Run
public import proofs.«01_k».proof.Proof.Gen.StatesRefIdeal.Read
public import proofs.«01_k».proof.Proof.Gen.States
public import proofs.«01_k».proof.Proof.Gen.States.Skeleton
public import proofs.«01_k».proof.Proof.Gen.States.Launch
public import proofs.«01_k».proof.Proof.Gen.States.Points
public import proofs.«01_k».proof.Proof.Gen.States.Frame
public import proofs.«01_k».proof.Proof.Gen.StatesIdeal
public import proofs.«01_k».proof.Proof.Gen.StatesIdeal.Skeleton
public import proofs.«01_k».proof.Proof.Gen.StatesIdeal.Launch
public import proofs.«01_k».proof.Proof.Gen.StatesIdeal.Points
public import proofs.«01_k».proof.Proof.Gen.StatesIdeal.Frame
public import proofs.«01_k».proof.Proof.Gen.StatesRefIdeal
public import Idealize.ShloMosaic.Adequacy
public import Idealize.ShloMosaic.Init

@[expose] public section

set_option maxRecDepth 16384
set_option maxHeartbeats 1600000

noncomputable section

namespace Cert.Proof

open Idealize.ShloMosaic Idealize.SL.Sem Cert.Mix

theorem claim : Cert.Claim := ⟨Cert.Mix.Gen.facts, Cert.MixIdeal.Gen.facts, Cert.MixRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.States.Gen.facts, Cert.StatesIdeal.Gen.facts, Cert.StatesRefIdeal.Gen.facts,
  fun m ρ _ => Cert.Mix.Gen.frame m ρ, fun m ρ _ => Cert.MixIdeal.Gen.frame m ρ,
  fun m ρ _ => (θ_run Cert.MixRefIdeal.defs _ _).mono (fun r h => ⟨fun c => (h c).2.2,
    Idealize.ShloMosaic.sem_eq_zero_of_no_sems (by decide) r.2⟩) (Cert.MixRefIdeal.Value.run m ρ),
  fun m ρ _ => Cert.Proj.Gen.frame m ρ, fun m ρ _ => Cert.ProjIdeal.Gen.frame m ρ,
  fun m ρ _ => (θ_run Cert.ProjRefIdeal.defs _ _).mono (fun r h => ⟨fun c => (h c).2,
    Idealize.ShloMosaic.sem_eq_zero_of_no_sems (by decide) r.2⟩) (Cert.ProjRefIdeal.Value.run m ρ),
  fun m ρ _ => Cert.Merge.Gen.frame m ρ, fun m ρ _ => Cert.MergeIdeal.Gen.frame m ρ,
  fun m ρ _ => (θ_run Cert.MergeRefIdeal.defs _ _).mono (fun r h => ⟨fun c => (h c).2.2.2,
    Idealize.ShloMosaic.sem_eq_zero_of_no_sems (by decide) r.2⟩) (Cert.MergeRefIdeal.Value.run m ρ),
  fun m ρ _ => Cert.States.Gen.frame m ρ, fun m ρ _ => Cert.StatesIdeal.Gen.frame m ρ,
  fun m ρ _ => (θ_run Cert.StatesRefIdeal.defs _ _).mono (fun r h => ⟨fun c => (h c).2.2.2.2,
    Idealize.ShloMosaic.sem_eq_zero_of_no_sems (by decide) r.2⟩) (Cert.StatesRefIdeal.Value.run m ρ),
  trivial, Cert.MixClaim.algebraic,
  trivial, Cert.ProjClaim.algebraic,
  IdealRules.named_const.statement Cert.MergeIdeal.κ "neg_inf" .f32 0xF149F2CA#32 ⊥ rfl, Cert.MergeClaim.algebraic,
  trivial, Cert.StatesClaim.algebraic⟩

end Cert.Proof

end
